-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x2048x64 : Shape := ⟨3, ![128, 2048, 64]⟩
abbrev S64x1 : Shape := ⟨2, ![64, 1]⟩
abbrev S1 : Shape := ⟨1, ![1]⟩
abbrev S2048x8 : Shape := ⟨2, ![2048, 8]⟩
abbrev S8 : Shape := ⟨1, ![8]⟩
abbrev S_ : Shape := ⟨0, ![]⟩

class Facts : Prop where
  bcast_S_S128x2048x64 : S_.BroadcastsInDim S128x2048x64 (![] : Fin 0 → Fin S128x2048x64.rank)
  reducesTo_S128x2048x64_S_d0_1_2 : S128x2048x64.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2048x8 : S_.BroadcastsInDim S2048x8 (![] : Fin 0 → Fin S2048x8.rank)
  reducesTo_S2048x8_S_d0_1 : S2048x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S128x2048x64 .f32) (main_arg1 : FVec F S64x1 .f32) (main_arg2 : FVec F S1 .f32) (main_arg3 : FVec F S2048x8 .f32) (main_arg4 : FVec F S8 .f32) : IVec S_ 1 :=
  let main_v0 : FVec F S128x2048x64 .f32 := Host.absf main_arg0
  let main_cst : FVec F S_ .f32 := constant S_ .f32 0x7F800000#32
  let main_v1 : FVec F S128x2048x64 .f32 := broadcastInDim S128x2048x64 ![] bcast_S_S128x2048x64 main_cst
  let main_v2 : IVec S128x2048x64 1 := cmpf .olt main_v0 main_v1
  let main_c : IVec S_ 1 := constantI S_ 1 1#1
  let main_v3 : IVec S_ 1 := (fun x v => Host.reduce IntOp.andi x v reducesTo_S128x2048x64_S_d0_1_2 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048x8 .f32 := Host.absf main_arg3
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg4 main_v13 main_v16
-- ==== Kernel.lean ====
abbrev S128x2048x64 : Shape := ⟨3, ![128, 2048, 64]⟩
abbrev S64x1 : Shape := ⟨2, ![64, 1]⟩
abbrev S1 : Shape := ⟨1, ![1]⟩
abbrev S2048x8 : Shape := ⟨2, ![2048, 8]⟩
abbrev S8 : Shape := ⟨1, ![8]⟩
abbrev S128x64x2048 : Shape := ⟨3, ![128, 64, 2048]⟩
abbrev S64 : Shape := ⟨1, ![64]⟩
abbrev S16x16 : Shape := ⟨2, ![16, 16]⟩
abbrev S_ : Shape := ⟨0, ![]⟩
abbrev S16x16x1 : Shape := ⟨3, ![16, 16, 1]⟩
abbrev S1x1x64 : Shape := ⟨3, ![1, 1, 64]⟩
abbrev S16x16x64 : Shape := ⟨3, ![16, 16, 64]⟩
abbrev S16x1024 : Shape := ⟨2, ![16, 1024]⟩
abbrev S128x8 : Shape := ⟨2, ![128, 8]⟩
abbrev S1x8 : Shape := ⟨2, ![1, 8]⟩
abbrev S16x64x1024 : Shape := ⟨3, ![16, 64, 1024]⟩
abbrev S1024x8 : Shape := ⟨2, ![1024, 8]⟩
abbrev S16x8 : Shape := ⟨2, ![16, 8]⟩
abbrev S1024x1024 : Shape := ⟨2, ![1024, 1024]⟩
abbrev S16 : Shape := ⟨1, ![16]⟩
abbrev S16x1 : Shape := ⟨2, ![16, 1]⟩

abbrev nBuf : Space → Nat
  | .hbm => 29
  | .vmem => 10
  | .smem => 0
  | _ => 0

abbrev bufTy : (tb : Table) → Fin (tcTables nBuf tb) → BufTy
  | .hbm, ⟨0, _⟩ => ⟨S128x2048x64, .f32⟩
  | .hbm, ⟨1, _⟩ => ⟨S64x1, .f32⟩
  | .hbm, ⟨2, _⟩ => ⟨S1, .f32⟩
  | .hbm, ⟨3, _⟩ => ⟨S2048x8, .f32⟩
  | .hbm, ⟨4, _⟩ => ⟨S8, .f32⟩
  | .hbm, ⟨5, _⟩ => ⟨S128x64x2048, .f32⟩
  | .hbm, ⟨6, _⟩ => ⟨S64, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S16x16x1, .f32⟩
  | .hbm, ⟨15, _⟩ => ⟨S1x1x64, .f32⟩
  | .hbm, ⟨16, _⟩ => ⟨S16x16x64, .f32⟩
  | .hbm, ⟨17, _⟩ => ⟨S16x16x64, .f32⟩
  | .hbm, ⟨18, _⟩ => ⟨S16x16x64, .f32⟩
  | .hbm, ⟨19, _⟩ => ⟨S16x1024, .f32⟩
  | .hbm, ⟨20, _⟩ => ⟨S_, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S128x8, .f32⟩
  | .hbm, ⟨27, _⟩ => ⟨S1x8, .i32⟩
  | .hbm, ⟨28, _⟩ => ⟨S8, .i32⟩
  | .local _ .vmem, ⟨0, _⟩ => ⟨S16x64x1024, .f32⟩
  | .local _ .vmem, ⟨1, _⟩ => ⟨S16x64x1024, .f32⟩
  | .local _ .vmem, ⟨2, _⟩ => ⟨S16x1024, .f32⟩
  | .local _ .vmem, ⟨3, _⟩ => ⟨S1024x8, .f32⟩
  | .local _ .vmem, ⟨4, _⟩ => ⟨S1024x8, .f32⟩
  | .local _ .vmem, ⟨5, _⟩ => ⟨S8, .f32⟩
  | .local _ .vmem, ⟨6, _⟩ => ⟨S16x8, .f32⟩
  | .local _ .vmem, ⟨7, _⟩ => ⟨S16x8, .f32⟩
  | .local _ .vmem, ⟨8, _⟩ => ⟨S1x8, .i32⟩
  | .local _ .vmem, ⟨9, _⟩ => ⟨S16x8, .f32⟩
  | _, _ => ⟨S128x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_cst : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_v0_0 : Ref sig .tc := ⟨.hbm, 26, rfl⟩
abbrev main_call0_v19_1 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_27 : BitVec 32 := 0#32
  let v68 : BitVec 1 := Scalar.cmpi .eq arg0 c0_i32_27
  let v69 : BitVec 32 := Scalar.extui v68
  let c0_i32_28 : BitVec 32 := 0#32
  let v70 : BitVec 1 := Scalar.cmpi .ne v69 c0_i32_28
  v70

def k0_cond5 (i : grid0.Coords) : BitVec 1 :=
  let arg0 : BitVec 32 := BitVec.ofNat 32 (i 0).val
  let c0_i32_29 : BitVec 32 := 0#32
  let v71 : BitVec 1 := Scalar.cmpi .ne arg0 c0_i32_29
  let v72 : BitVec 32 := Scalar.extui v71
  let c0_i32_30 : BitVec 32 := 0#32
  let v73 : BitVec 1 := Scalar.cmpi .ne v72 c0_i32_30
  v73

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S128x2048x64 : Shape := ⟨3, ![128, 2048, 64]⟩
abbrev S64x1 : Shape := ⟨2, ![64, 1]⟩
abbrev S1 : Shape := ⟨1, ![1]⟩
abbrev S2048x8 : Shape := ⟨2, ![2048, 8]⟩
abbrev S8 : Shape := ⟨1, ![8]⟩
abbrev S128x2048x1 : Shape := ⟨3, ![128, 2048, 1]⟩
abbrev S1x1x1 : Shape := ⟨3, ![1, 1, 1]⟩
abbrev S128x2048 : Shape := ⟨2, ![128, 2048]⟩
abbrev S_ : Shape := ⟨0, ![]⟩
abbrev S128x8 : Shape := ⟨2, ![128, 8]⟩
abbrev S1x8 : Shape := ⟨2, ![1, 8]⟩
abbrev S128x3 : Shape := ⟨2, ![128, 3]⟩
abbrev S128x2 : Shape := ⟨2, ![128, 2]⟩
abbrev S128 : Shape := ⟨1, ![128]⟩
abbrev S128x1 : Shape := ⟨2, ![128, 1]⟩
abbrev S128x2x1 : Shape := ⟨3, ![128, 2, 1]⟩
abbrev S128x2x2 : Shape := ⟨3, ![128, 2, 2]⟩

abbrev nBuf : Space → Nat
  | .hbm => 126
  | .vmem => 0
  | .smem => 0
  | _ => 0

abbrev bufTy : (tb : Table) → Fin (tcTables nBuf tb) → BufTy
  | .hbm, ⟨0, _⟩ => ⟨S128x2048x64, .f32⟩
  | .hbm, ⟨1, _⟩ => ⟨S64x1, .f32⟩
  | .hbm, ⟨2, _⟩ => ⟨S1, .f32⟩
  | .hbm, ⟨3, _⟩ => ⟨S2048x8, .f32⟩
  | .hbm, ⟨4, _⟩ => ⟨S8, .f32⟩
  | .hbm, ⟨5, _⟩ => ⟨S128x2048x1, .f32⟩
  | .hbm, ⟨6, _⟩ => ⟨S1x1x1, .f32⟩
  | .hbm, ⟨7, _⟩ => ⟨S128x2048x1, .f32⟩
  | .hbm, ⟨8, _⟩ => ⟨S128x2048x1, .f32⟩
  | .hbm, ⟨9, _⟩ => ⟨S128x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S128x2048, .i1⟩
  | .hbm, ⟨14, _⟩ => ⟨S_, .f32⟩
  | .hbm, ⟨15, _⟩ => ⟨S128x2048, .f32⟩
  | .hbm, ⟨16, _⟩ => ⟨S128x2048, .f32⟩
  | .hbm, ⟨17, _⟩ => ⟨S_, .f32⟩
  | .hbm, ⟨18, _⟩ => ⟨S128x2048, .f32⟩
  | .hbm, ⟨19, _⟩ => ⟨S128x2048, .i1⟩
  | .hbm, ⟨20, _⟩ => ⟨S_, .f32⟩
  | .hbm, ⟨21, _⟩ => ⟨S128x2048, .f32⟩
  | .hbm, ⟨22, _⟩ => ⟨S128x2048, .f32⟩
  | .hbm, ⟨23, _⟩ => ⟨S_, .f32⟩
  | .hbm, ⟨24, _⟩ => ⟨S128x2048, .f32⟩
  | .hbm, ⟨25, _⟩ => ⟨S128x2048, .i1⟩
  | .hbm, ⟨26, _⟩ => ⟨S_, .f32⟩
  | .hbm, ⟨27, _⟩ => ⟨S128x2048, .f32⟩
  | .hbm, ⟨28, _⟩ => ⟨S128x2048, .f32⟩
  | .hbm, ⟨29, _⟩ => ⟨S128x8, .f32⟩
  | .hbm, ⟨30, _⟩ => ⟨S1x8, .f32⟩
  | .hbm, ⟨31, _⟩ => ⟨S128x8, .f32⟩
  | .hbm, ⟨32, _⟩ => ⟨S128x8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128x8, .i1⟩
  | .hbm, ⟨37, _⟩ => ⟨S_, .f32⟩
  | .hbm, ⟨38, _⟩ => ⟨S128x8, .f32⟩
  | .hbm, ⟨39, _⟩ => ⟨S128x8, .f32⟩
  | .hbm, ⟨40, _⟩ => ⟨S_, .f32⟩
  | .hbm, ⟨41, _⟩ => ⟨S128x8, .f32⟩
  | .hbm, ⟨42, _⟩ => ⟨S128x8, .i1⟩
  | .hbm, ⟨43, _⟩ => ⟨S_, .f32⟩
  | .hbm, ⟨44, _⟩ => ⟨S128x8, .f32⟩
  | .hbm, ⟨45, _⟩ => ⟨S128x8, .f32⟩
  | .hbm, ⟨46, _⟩ => ⟨S_, .f32⟩
  | .hbm, ⟨47, _⟩ => ⟨S128x8, .f32⟩
  | .hbm, ⟨48, _⟩ => ⟨S128x8, .i1⟩
  | .hbm, ⟨49, _⟩ => ⟨S_, .f32⟩
  | .hbm, ⟨50, _⟩ => ⟨S128x8, .f32⟩
  | .hbm, ⟨51, _⟩ => ⟨S128x8, .f32⟩
  | .hbm, ⟨52, _⟩ => ⟨S128x3, .f32⟩
  | .hbm, ⟨53, _⟩ => ⟨S128x3, .i32⟩
  | .hbm, ⟨54, _⟩ => ⟨S128x2, .f32⟩
  | .hbm, ⟨55, _⟩ => ⟨S128x2, .i32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128x1, .f32⟩
  | .hbm, ⟨62, _⟩ => ⟨S128x2, .f32⟩
  | .hbm, ⟨63, _⟩ => ⟨S128x2, .f32⟩
  | .hbm, ⟨64, _⟩ => ⟨S128x2, .f32⟩
  | .hbm, ⟨65, _⟩ => ⟨S_, .f32⟩
  | .hbm, ⟨66, _⟩ => ⟨S128, .f32⟩
  | .hbm, ⟨67, _⟩ => ⟨S128x1, .f32⟩
  | .hbm, ⟨68, _⟩ => ⟨S128x2, .f32⟩
  | .hbm, ⟨69, _⟩ => ⟨S128x2, .f32⟩
  | .hbm, ⟨70, _⟩ => ⟨S_, .f32⟩
  | .hbm, ⟨71, _⟩ => ⟨S128x8, .f32⟩
  | .hbm, ⟨72, _⟩ => ⟨S128, .i32⟩
  | .hbm, ⟨73, _⟩ => ⟨S128x1, .i32⟩
  | .hbm, ⟨74, _⟩ => ⟨S_, .i32⟩
  | .hbm, ⟨75, _⟩ => ⟨S128x1, .i32⟩
  | .hbm, ⟨76, _⟩ => ⟨S128x1, .i1⟩
  | .hbm, ⟨77, _⟩ => ⟨S_, .i32⟩
  | .hbm, ⟨78, _⟩ => ⟨S128x1, .i32⟩
  | .hbm, ⟨79, _⟩ => ⟨S128x1, .i32⟩
  | .hbm, ⟨80, _⟩ => ⟨S128x1, .i32⟩
  | .hbm, ⟨81, _⟩ => ⟨S_, .i32⟩
  | .hbm, ⟨82, _⟩ => ⟨S128x2, .i32⟩
  | .hbm, ⟨83, _⟩ => ⟨S128x2, .i1⟩
  | .hbm, ⟨84, _⟩ => ⟨S_, .i32⟩
  | .hbm, ⟨85, _⟩ => ⟨S128x2, .i32⟩
  | .hbm, ⟨86, _⟩ => ⟨S128x2, .i32⟩
  | .hbm, ⟨87, _⟩ => ⟨S128x2, .i32⟩
  | .hbm, ⟨88, _⟩ => ⟨S128x2, .i32⟩
  | .hbm, ⟨89, _⟩ => ⟨S128x2x1, .i32⟩
  | .hbm, ⟨90, _⟩ => ⟨S128x2x1, .i32⟩
  | .hbm, ⟨91, _⟩ => ⟨S128x2x2, .i32⟩
  | .hbm, ⟨92, _⟩ => ⟨S128x8, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S128x8, .i1⟩
  | .hbm, ⟨97, _⟩ => ⟨S_, .f32⟩
  | .hbm, ⟨98, _⟩ => ⟨S128x8, .f32⟩
  | .hbm, ⟨99, _⟩ => ⟨S128x8, .f32⟩
  | .hbm, ⟨100, _⟩ => ⟨S_, .f32⟩
  | .hbm, ⟨101, _⟩ => ⟨S128x8, .f32⟩
  | .hbm, ⟨102, _⟩ => ⟨S128x8, .i1⟩
  | .hbm, ⟨103, _⟩ => ⟨S_, .f32⟩
  | .hbm, ⟨104, _⟩ => ⟨S128x8, .f32⟩
  | .hbm, ⟨105, _⟩ => ⟨S128x8, .f32⟩
  | .hbm, ⟨106, _⟩ => ⟨S_, .f32⟩
  | .hbm, ⟨107, _⟩ => ⟨S128x8, .f32⟩
  | .hbm, ⟨108, _⟩ => ⟨S128x8, .i1⟩
  | .hbm, ⟨109, _⟩ => ⟨S_, .f32⟩
  | .hbm, ⟨110, _⟩ => ⟨S128x8, .f32⟩
  | .hbm, ⟨111, _⟩ => ⟨S128x8, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S128x8, .f32⟩
  | .hbm, ⟨116, _⟩ => ⟨S128x8, .f32⟩
  | .hbm, ⟨117, _⟩ => ⟨S_, .f32⟩
  | .hbm, ⟨118, _⟩ => ⟨S128x8, .f32⟩
  | .hbm, ⟨119, _⟩ => ⟨S128x8, .f32⟩
  | .hbm, ⟨120, _⟩ => ⟨S_, .f32⟩
  | .hbm, ⟨121, _⟩ => ⟨S128x8, .f32⟩
  | .hbm, ⟨122, _⟩ => ⟨S128x8, .i1⟩
  | .hbm, ⟨123, _⟩ => ⟨S128x8, .i32⟩
  | .hbm, ⟨124, _⟩ => ⟨S_, .i32⟩
  | .hbm, ⟨125, _⟩ => ⟨S8, .i32⟩
  | _, _ => ⟨S128x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_call0_v0 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_call1_v0 : Ref sig .tc := ⟨.hbm, 21, rfl⟩
abbrev main_call0_v6 : Ref sig .tc := ⟨.hbm, 22, rfl⟩
abbrev main_call0_cst_0 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_call2_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_cst_3 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_call1_call0_v0 : Ref sig .tc := ⟨.hbm, 38, rfl⟩
abbrev main_call1_v2 : Ref sig .tc := ⟨.hbm, 39, rfl⟩
abbrev main_call1_cst : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_call1_v0 : Ref sig .tc := ⟨.hbm, 44, rfl⟩
abbrev main_call1_v6 : Ref sig .tc := ⟨.hbm, 45, rfl⟩
abbrev main_call1_cst_0 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_call2_v0 : Ref sig .tc := ⟨.hbm, 50, rfl⟩
abbrev main_v10 : Ref sig .tc := ⟨.hbm, 51, rfl⟩
abbrev main_values : Ref sig .tc := ⟨.hbm, 52, rfl⟩
abbrev main_indices : Ref sig .tc := ⟨.hbm, 53, rfl⟩
abbrev main_v11 : Ref sig .tc := ⟨.hbm, 54, rfl⟩
abbrev main_v12 : Ref sig .tc := ⟨.hbm, 55, rfl⟩
abbrev main_cst_5 : Ref sig .tc := ⟨.hbm, 56, rfl⟩
abbrev main_v13 : Ref sig .tc := ⟨.hbm, 57, rfl⟩
abbrev main_cst_6 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_7 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_8 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c : Ref sig .tc := ⟨.hbm, 74, rfl⟩
abbrev main_v27 : Ref sig .tc := ⟨.hbm, 75, rfl⟩
abbrev main_v28 : Ref sig .tc := ⟨.hbm, 76, rfl⟩
abbrev main_c_9 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_c_10 : Ref sig .tc := ⟨.hbm, 81, rfl⟩
abbrev main_v32 : Ref sig .tc := ⟨.hbm, 82, rfl⟩
abbrev main_v33 : Ref sig .tc := ⟨.hbm, 83, rfl⟩
abbrev main_c_11 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_12 : Ref sig .tc := ⟨.hbm, 93, rfl⟩
abbrev main_cst_13 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_call2_call0_v0 : Ref sig .tc := ⟨.hbm, 98, rfl⟩
abbrev main_call2_v2 : Ref sig .tc := ⟨.hbm, 99, rfl⟩
abbrev main_call2_cst : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_call1_v0 : Ref sig .tc := ⟨.hbm, 104, rfl⟩
abbrev main_call2_v6 : Ref sig .tc := ⟨.hbm, 105, rfl⟩
abbrev main_call2_cst_0 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_call2_v0 : Ref sig .tc := ⟨.hbm, 110, rfl⟩
abbrev main_v42 : Ref sig .tc := ⟨.hbm, 111, rfl⟩
abbrev main_cst_15 : Ref sig .tc := ⟨.hbm, 112, rfl⟩
abbrev main_cst_16 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v43 : Ref sig .tc := ⟨.hbm, 119, rfl⟩
abbrev main_cst_17 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_c_18 : Ref sig .tc := ⟨.hbm, 124, rfl⟩
abbrev main_v47 : Ref sig .tc := ⟨.hbm, 125, rfl⟩

abbrev nD : Nat := 1
abbrev τ : Topo := Topo.v7x

variable {F : FTy → Type} [FloatOps F]
-- ==== Proof.Finite.lean ====
/- What the precondition says: every element of every argument is a real number. -/
module

public import proofs.«01_k».proof.Proof.Gen.Pre_finite
public import Idealize.ShloMosaic.Lib.ReduceAll
public import Idealize.ShloMosaic.Lib.ValueIdx
public import Idealize.ShloMosaic.PureOps.Ideal.Laws

@[expose] public section

noncomputable section

namespace Cert.Pre_finite.Read

open Idealize.ShloMosaic Cert.Pre_finite

/-- An extended real whose absolute value is below `+∞` is a real. -/
theorem real_of_abs_lt (x : EReal) (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  induction x using EReal.rec with
  | bot => simp [Ideal.cmp] at h
  | coe r => exact ⟨r, rfl⟩
  | top => simp [Ideal.cmp] at h

/-- `jnp.all(jnp.abs(x) < jnp.inf)` at one element. -/
theorem real_of_all {s u : Shape} {axes : List (Fin s.rank)} [Subsingleton u.Idx] (x : FVec Ideal s .f32) (b : FVec Ideal s .f32)
    (hb : ∀ i, b i = Ideal.ofBits .f32 0x7F800000#32) (init : IVec u 1) (h : s.ReducesTo axes u) (hu : 0 < u.numel) (j : u.Idx)
    (e : Host.reduce IntOp.andi (cmpf .olt (Host.absf x) b) init h hu j = 1#1) (i : s.Idx) : ∃ r : ℝ, x i = (r : EReal) := by
  have h1 : Ideal.cmp .olt (max (x i) (-(x i))) (b i) = 1#1 := Host.reduce_andi_all _ init h hu j e i
  rw [hb] at h1
  exact real_of_abs_lt _ h1

instance : Subsingleton S_.Idx := ⟨fun a b => funext fun k => absurd k.isLt (Nat.not_lt_zero _)⟩

/-- The precondition, read: all five arguments hold reals. -/
theorem reals (x : FVec Ideal S128x2048x64 .f32) (w : FVec Ideal S64x1 .f32) (b : FVec Ideal S1 .f32) (g : FVec Ideal S2048x8 .f32) (c : FVec Ideal S8 .f32)
    (h : fn (F := Ideal) x w b g c = fun _ => 1#1) :
    (∀ i, ∃ r : ℝ, x i = (r : EReal)) ∧ (∀ i, ∃ r : ℝ, w i = (r : EReal)) ∧ (∀ i, ∃ r : ℝ, b i = (r : EReal))
      ∧ (∀ i, ∃ r : ℝ, g i = (r : EReal)) ∧ (∀ i, ∃ r : ℝ, c i = (r : EReal)) := by
  have h0 := congrFun h (Shape.Idx.first (s := S_) (by decide))
  obtain ⟨h1, hc⟩ := IntOp.andi_eq_one.1 h0
  obtain ⟨h2, hg⟩ := IntOp.andi_eq_one.1 h1
  obtain ⟨h3, hb⟩ := IntOp.andi_eq_one.1 h2
  obtain ⟨hx, hw⟩ := IntOp.andi_eq_one.1 h3
  exact ⟨real_of_all x _ (fun _ => rfl) _ _ _ _ hx, real_of_all w _ (fun _ => rfl) _ _ _ _ hw, real_of_all b _ (fun _ => rfl) _ _ _ _ hb,
    real_of_all g _ (fun _ => rfl) _ _ _ _ hg, real_of_all c _ (fun _ => rfl) _ _ _ _ hc⟩

end Cert.Pre_finite.Read

end
-- ==== Proof.Cases.lean ====
/- What one grid point's body leaves behind, case by case, as the kernel's own arithmetic of the blocks it read.
   The grid is 8 row blocks by 2 halves of the sequence axis; a point is of case A on the first half, of case B on the
   second half of row block 0, and of case C on the second half of every later row block. -/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Idealize.ShloMosaic Idealize.ShloMosaic.TcCoe Idealize.SL.Sem Cert.KernelIdeal Cert.KernelIdeal.Gen

variable {F : FTy → Type} [FloatOps F]

/-- Zero offsets of a rank-2 access. -/
theorem zero2 : (![0, 0] : Fin 2 → Nat) = fun _ => 0 := funext fun a => by fin_cases a <;> rfl
/-- Zero offsets of a rank-3 access. -/
theorem zero3 : (![0, 0, 0] : Fin 3 → Nat) = fun _ => 0 := funext fun a => by fin_cases a <;> rfl
/-- The zero offset of a rank-1 access. -/
theorem zero1 : (![0] : Fin 1 → Nat) = fun _ => 0 := funext fun a => by fin_cases a; rfl

section
variable (c : Dev nD) (i : grid0.Coords) (a2 : Memref sig .tc .vmem S16x64x1024 .f32) (h2 : a2.IsWhole)
  (a3 : Memref sig .tc .vmem S16x1024 .f32) (h3 : a3.IsWhole) (a4 : Memref sig .tc .vmem S1024x8 .f32) (h4 : a4.IsWhole)
  (a5 : Memref sig .tc .vmem S8 .f32) (h5 : a5.IsWhole) (a6 : Memref sig .tc .vmem S16x8 .f32) (h6 : a6.IsWhole)
  (a7 : Memref sig .tc .vmem S1x8 .i32) (h7 : a7.IsWhole) (a8 : Memref sig .tc .vmem S16x8 .f32) (h8 : a8.IsWhole)
  (x0 : Vec F S16x64x1024 .f32) (x1 : Vec F S16x1024 .f32) (x2 : Vec F S1024x8 .f32) (x3 : Vec F S8 .f32)

/-- Case A leaves the first half's partial logits in the accumulator. -/
theorem acc_A (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 = k0_pay2 x0 x1 x2 := by
  unfold sout0_A_0
  rw [View.read_writes_eq_canon _ _ _ (scover0_A_0 c i a2 h2 a3 h3 a4 h4 a5 h5 a6 h6 a7 h7 a8 h8 hc0 hc1 hc2 x0 x1 x2 x3)]
  unfold kernelRun0_A
  dsimp only
  rw [View.canon_unit_zero zero2]
  simp only [View.readAt_eq_ld, h2.read_unread, h3.read_unread, h4.read_unread,
    View.ld_unit_zero (S := S16x64x1024) zero3, View.ld_unit_zero (S := S16x1024) zero2, View.ld_unit_zero (S := S1024x8) zero2]

/-- Case B adds the second half's partial logits to the accumulator. -/
theorem acc_B (hc0 : ¬cond0_0 i) (hc1 : cond0_1 i) (hc2 : cond0_2 i) (hc3 : cond0_3 i) (hc4 : ¬cond0_4 i) (s : Vec F S16x8 .f32) :
    sout0_B_0 c i a2 h2 a3 h3 a4 h4 a5 h5 a6 h6 a7 h7 a8 h8 hc0 hc1 hc2 hc3 hc4 x0 x1 x2 x3 s = k0_pay3 x0 x1 x2 s := by
  unfold sout0_B_0
  rw [View.read_writes_eq_canon _ _ _ (scover0_B_0 c i a2 h2 a3 h3 a4 h4 a5 h5 a6 h6 a7 h7 a8 h8 hc0 hc1 hc2 hc3 hc4 x0 x1 x2 x3 s)]
  unfold kernelRun0_B
  dsimp only
  sl_unfold_words
  rw [View.canon_unit_zero zero2]
  simp only [View.readAt_eq_ld, h2.read_unread, h3.read_unread, h4.read_unread, h8.read_unread,
    View.ld_unit_zero (S := S16x64x1024) zero3, View.ld_unit_zero (S := S16x1024) zero2, View.ld_unit_zero (S := S1024x8) zero2,
    View.ld_unit_zero (S := S16x8) zero2]

/-- Case C does the same to the accumulator. -/
theorem acc_C (hc0 : ¬cond0_0 i) (hc1 : cond0_1 i) (hc2 : cond0_2 i) (hc3 : ¬cond0_3 i) (hc4 : cond0_4 i) (o : Vec F S1x8 .i32)
    (s : Vec F S16x8 .f32) :
    sout0_C_0 c i a2 h2 a3 h3 a4 h4 a5 h5 a6 h6 a7 h7 a8 h8 hc0 hc1 hc2 hc3 hc4 x0 x1 x2 x3 o s = k0_pay3 x0 x1 x2 s := by
  unfold sout0_C_0
  rw [View.read_writes_eq_canon _ _ _ (scover0_C_0 c i a2 h2 a3 h3 a4 h4 a5 h5 a6 h6 a7 h7 a8 h8 hc0 hc1 hc2 hc3 hc4 x0 x1 x2 x3 o s)]
  unfold kernelRun0_C
  dsimp only
  sl_unfold_words
  rw [View.canon_unit_zero zero2]
  simp only [View.readAt_eq_ld, h2.read_unread, h3.read_unread, h4.read_unread, h8.read_unread,
    View.ld_unit_zero (S := S16x64x1024) zero3, View.ld_unit_zero (S := S16x1024) zero2, View.ld_unit_zero (S := S1024x8) zero2,
    View.ld_unit_zero (S := S16x8) zero2]

/-- Case B writes the gates of the finished logits. -/
theorem gates_B (hc0 : ¬cond0_0 i) (hc1 : cond0_1 i) (hc2 : cond0_2 i) (hc3 : cond0_3 i) (hc4 : ¬cond0_4 i) (s : Vec F S16x8 .f32) :
    out0_B_4 c i a2 h2 a3 h3 a4 h4 a5 h5 a6 h6 a7 h7 a8 h8 hc0 hc1 hc2 hc3 hc4 x0 x1 x2 x3 s
      = k0_pay6 (k0_pay3 x0 x1 x2 s) x3 := by
  unfold out0_B_4
  rw [View.read_writes_eq_canon _ _ _ (cover0_B_4 c i a2 h2 a3 h3 a4 h4 a5 h5 a6 h6 a7 h7 a8 h8 hc0 hc1 hc2 hc3 hc4 x0 x1 x2 x3 s)]
  unfold kernelRun0_B
  dsimp only
  sl_unfold_words
  rw [View.canon_unit_zero zero2]
  simp only [View.readCov_unit_zero (S := S16x8) _ zero2, View.readAt_eq_ld, h2.read_unread, h3.read_unread, h4.read_unread, h5.read_unread, h8.read_unread,
    View.ld_unit_zero (S := S16x64x1024) zero3, View.ld_unit_zero (S := S16x1024) zero2, View.ld_unit_zero (S := S1024x8) zero2,
    View.ld_unit_zero (S := S16x8) zero2, View.ld_unit_zero (S := S8) zero1]

/-- Case B writes the count of the block's positive gates. -/
theorem load_B (hc0 : ¬cond0_0 i) (hc1 : cond0_1 i) (hc2 : cond0_2 i) (hc3 : cond0_3 i) (hc4 : ¬cond0_4 i) (s : Vec F S16x8 .f32) :
    out0_B_5 c i a2 h2 a3 h3 a4 h4 a5 h5 a6 h6 a7 h7 a8 h8 hc0 hc1 hc2 hc3 hc4 x0 x1 x2 x3 s
      = k0_pay4 (k0_pay6 (k0_pay3 x0 x1 x2 s) x3) := by
  unfold out0_B_5
  rw [View.read_writes_eq_canon _ _ _ (cover0_B_5 c i a2 h2 a3 h3 a4 h4 a5 h5 a6 h6 a7 h7 a8 h8 hc0 hc1 hc2 hc3 hc4 x0 x1 x2 x3 s)]
  unfold kernelRun0_B
  dsimp only
  sl_unfold_words
  rw [View.canon_unit_zero zero2]
  simp only [View.readCov_unit_zero (S := S16x8) _ zero2, View.readAt_eq_ld, h2.read_unread, h3.read_unread, h4.read_unread, h5.read_unread, h8.read_unread,
    View.ld_unit_zero (S := S16x64x1024) zero3, View.ld_unit_zero (S := S16x1024) zero2, View.ld_unit_zero (S := S1024x8) zero2,
    View.ld_unit_zero (S := S16x8) zero2, View.ld_unit_zero (S := S8) zero1]

/-- Case C writes the gates of the finished logits. -/
theorem gates_C (hc0 : ¬cond0_0 i) (hc1 : cond0_1 i) (hc2 : cond0_2 i) (hc3 : ¬cond0_3 i) (hc4 : cond0_4 i) (o : Vec F S1x8 .i32)
    (s : Vec F S16x8 .f32) :
    out0_C_4 c i a2 h2 a3 h3 a4 h4 a5 h5 a6 h6 a7 h7 a8 h8 hc0 hc1 hc2 hc3 hc4 x0 x1 x2 x3 o s
      = k0_pay6 (k0_pay3 x0 x1 x2 s) x3 := by
  unfold out0_C_4
  rw [View.read_writes_eq_canon _ _ _ (cover0_C_4 c i a2 h2 a3 h3 a4 h4 a5 h5 a6 h6 a7 h7 a8 h8 hc0 hc1 hc2 hc3 hc4 x0 x1 x2 x3 o s)]
  unfold kernelRun0_C
  dsimp only
  sl_unfold_words
  rw [View.canon_unit_zero zero2]
  simp only [View.readCov_unit_zero (S := S16x8) _ zero2, View.readAt_eq_ld, h2.read_unread, h3.read_unread, h4.read_unread, h5.read_unread, h8.read_unread,
    View.ld_unit_zero (S := S16x64x1024) zero3, View.ld_unit_zero (S := S16x1024) zero2, View.ld_unit_zero (S := S1024x8) zero2,
    View.ld_unit_zero (S := S16x8) zero2, View.ld_unit_zero (S := S8) zero1]

/-- Case C adds the count of the block's positive gates to the counts so far. -/
theorem load_C (hc0 : ¬cond0_0 i) (hc1 : cond0_1 i) (hc2 : cond0_2 i) (hc3 : ¬cond0_3 i) (hc4 : cond0_4 i) (o : Vec F S1x8 .i32)
    (s : Vec F S16x8 .f32) :
    out0_C_5 c i a2 h2 a3 h3 a4 h4 a5 h5 a6 h6 a7 h7 a8 h8 hc0 hc1 hc2 hc3 hc4 x0 x1 x2 x3 o s
      = k0_pay5 (k0_pay6 (k0_pay3 x0 x1 x2 s) x3) o := by
  unfold out0_C_5
  rw [View.read_writes_eq_canon _ _ _ (cover0_C_5 c i a2 h2 a3 h3 a4 h4 a5 h5 a6 h6 a7 h7 a8 h8 hc0 hc1 hc2 hc3 hc4 x0 x1 x2 x3 o s)]
  unfold kernelRun0_C
  dsimp only
  sl_unfold_words
  rw [View.canon_unit_zero zero2]
  simp only [View.readCov_unit_zero (S := S16x8) _ zero2, View.readAt_eq_ld, h2.read_unread, h3.read_unread, h4.read_unread, h5.read_unread, h7.read_unread, h8.read_unread,
    View.ld_unit_zero (S := S16x64x1024) zero3, View.ld_unit_zero (S := S16x1024) zero2, View.ld_unit_zero (S := S1024x8) zero2,
    View.ld_unit_zero (S := S16x8) zero2, View.ld_unit_zero (S := S8) zero1, View.ld_unit_zero (S := S1x8) zero2]

end

end Cert.KernelIdeal.Value

end
-- ==== Proof.Block.lean ====
/- What one block of the kernel computes, at an index: the partial logits of 16 rows over 1024 sequence positions, and
   the count of positive gates among 16 rows. -/
module

public import proofs.«01_k».proof.Proof.Gen.KernelIdeal.Skeleton
public import Idealize.ShloMosaic.Lib.ValueIdx
public import Idealize.ShloMosaic.Lib.WordCmp
public import Idealize.ShloMosaic.Lib.IdealHost
public import Idealize.ShloMosaic.Lib.Pipeline.Value
public import Idealize.ShloMosaic.Lib.StableHlo.Predicate
public import Idealize.ShloMosaic.PureOps.Ideal.Laws

@[expose] public section

noncomputable section

namespace Cert.KernelIdeal.Block

open Idealize.ShloMosaic Idealize.ShloMosaic.TcCoe Idealize.ShloMosaic.ValueIdx Idealize.ShloMosaic.WordCmp Cert.KernelIdeal Cert.KernelIdeal.Gen

/-! ## The two products -/

/-- The first product's sum, over the 1024 flattened (row, channel) pairs. -/
theorem weighted_apply (a : FVec Ideal S16x1024 .f32) (b : FVec Ideal S1024x1024 .f32) (r : Fin 16) (s : Fin 1024) :
    matmul dot_S16x1024_S1024x1024_S16x1024_1_0_0_1_n_n none a b (constant S16x1024 .f32 0x00000000#32) (ix2 r s)
      = ∑ k : Fin 1024, a (ix2 r k) * b (ix2 k s) := by
  refine (Ideal.matmul_constant_zero_apply _ _ a b (ix2 r s)).trans ?_
  rw [← Equiv.sum_comp (contrEquiv1 dot_S16x1024_S1024x1024_S16x1024_1_0_0_1_n_n 1024 rfl rfl).symm]
  refine Finset.sum_congr rfl fun k _ => ?_
  congr 2
  · funext d; match d with
    | ⟨0, _⟩ => rfl
    | ⟨1, _⟩ => exact Fin.ext (contrEquiv1_symm_val dot_S16x1024_S1024x1024_S16x1024_1_0_0_1_n_n 1024 rfl rfl k)
  · funext d; match d with
    | ⟨0, _⟩ => exact Fin.ext (contrEquiv1_symm_val dot_S16x1024_S1024x1024_S16x1024_1_0_0_1_n_n 1024 rfl rfl k)
    | ⟨1, _⟩ => rfl

/-- The second product's sum, over the block's 1024 sequence positions. -/
theorem gated_apply (a : FVec Ideal S16x1024 .f32) (b : FVec Ideal S1024x8 .f32) (r : Fin 16) (e : Fin 8) :
    matmul dot_S16x1024_S1024x8_S16x8_1_0_0_1_n_n none a b (constant S16x8 .f32 0x00000000#32) (ix2 r e)
      = ∑ s : Fin 1024, a (ix2 r s) * b (ix2 s e) := by
  refine (Ideal.matmul_constant_zero_apply _ _ a b (ix2 r e)).trans ?_
  rw [← Equiv.sum_comp (contrEquiv1 dot_S16x1024_S1024x8_S16x8_1_0_0_1_n_n 1024 rfl rfl).symm]
  refine Finset.sum_congr rfl fun k _ => ?_
  congr 2
  · funext d; match d with
    | ⟨0, _⟩ => rfl
    | ⟨1, _⟩ => exact Fin.ext (contrEquiv1_symm_val dot_S16x1024_S1024x8_S16x8_1_0_0_1_n_n 1024 rfl rfl k)
  · funext d; match d with
    | ⟨0, _⟩ => exact Fin.ext (contrEquiv1_symm_val dot_S16x1024_S1024x8_S16x8_1_0_0_1_n_n 1024 rfl rfl k)
    | ⟨1, _⟩ => rfl

/-- The flattened position `64 q + n` of the block's first two axes. -/
def flat (q : Fin 16) (n : Fin 64) : Fin 1024 := ⟨64 * q.val + n.val, by omega⟩

/-- A sum over the 1024 flattened positions is the sum over 16 rows and 64 channels. -/
theorem sum_flat (g : Fin 1024 → EReal) : ∑ k, g k = ∑ q : Fin 16, ∑ n : Fin 64, g (flat q n) := by
  rw [← Fintype.sum_prod_type', ← Equiv.sum_comp (finProdFinEquiv (m := 16) (n := 64))]
  refine Finset.sum_congr rfl fun p _ => congrArg g (Fin.ext ?_)
  show p.2.val + 64 * p.1.val = 64 * p.1.val + p.2.val
  omega

/-- The block of the transposed input read at a flattened position. -/
theorem flat_apply (x : FVec Ideal S16x64x1024 .f32) (q : Fin 16) (n : Fin 64) (s : Fin 1024) :
    shapeCast S1024x1024 (shapeCast S16x64x1024 x shapeCasts_S16x64x1024_S16x64x1024) shapeCasts_S16x64x1024_S1024x1024
      (ix2 (flat q n) s) = x (ix3 q n s) := by
  rw [shapeCast_self]
  refine shapeCast_apply x _ (ix2 (flat q n) s) (ix3 q n s) ?_
  rw [Shape.rowMajor_val_three, Shape.rowMajor_val_two]
  show (q.val * 64 + n.val) * 1024 + s.val = (64 * q.val + n.val) * 1024 + s.val
  omega

/-- The block's partial logits at row `r` and expert `e`. -/
theorem pay1_apply (x : FVec Ideal S16x64x1024 .f32) (w : FVec Ideal S16x1024 .f32) (g : FVec Ideal S1024x8 .f32) (r : Fin 16) (e : Fin 8) :
    k0_pay1 (F := Ideal) x w g (ix2 r e)
      = ∑ s : Fin 1024, (∑ q : Fin 16, ∑ n : Fin 64, w (ix2 r (flat q n)) * x (ix3 q n s)) * g (ix2 s e) := by
  unfold k0_pay1
  refine (gated_apply _ g r e).trans (Finset.sum_congr rfl fun s _ => congrArg (· * g (ix2 s e)) ?_)
  refine (weighted_apply _ _ r s).trans ((sum_flat _).trans ?_)
  refine Finset.sum_congr rfl fun q _ => Finset.sum_congr rfl fun n _ => ?_
  rw [flat_apply, shapeCast_self]

/-- The first half's accumulator. -/
theorem pay2_eq (x : FVec Ideal S16x64x1024 .f32) (w : FVec Ideal S16x1024 .f32) (g : FVec Ideal S1024x8 .f32) :
    k0_pay2 (F := Ideal) x w g = k0_pay1 (F := Ideal) x w g := by
  unfold k0_pay2
  exact shapeCast_self _ _

/-- The second half adds to the accumulator. -/
theorem pay3_eq (x : FVec Ideal S16x64x1024 .f32) (w : FVec Ideal S16x1024 .f32) (g : FVec Ideal S1024x8 .f32) (a : FVec Ideal S16x8 .f32) :
    k0_pay3 (F := Ideal) x w g a = addf a (k0_pay1 (F := Ideal) x w g) := by
  unfold k0_pay3
  exact shapeCast_self _ _

/-! ## The counts -/

/-- How many of a block's 16 rows have a positive gate for expert `e`. -/
def positives (v : FVec Ideal S16x8 .f32) (e : Fin 8) : ℕ := (Finset.univ.filter fun r : Fin 16 => (0 : EReal) < v (ix2 r e)).card

theorem rows_lift_eq (r : Fin 16) (e : Fin 8) : reduces_S16x8_S8.lift (ix1 e) r = ix2 r e := by
  funext a
  match a with
  | ⟨0, _⟩ => rfl
  | ⟨1, _⟩ => rfl

/-- The widened bit "positive" is the word 1 or 0. -/
theorem positive_apply (v : FVec Ideal S16x8 .f32) (r : Fin 16) (e : Fin 8) :
    (extui 32 (cmpf .ogt v (broadcast S16x8 (Scalar.ofBits .f32 0x00000000#32))) natLt_1_32 (ix2 r e)).toNat
      = if (0 : EReal) < v (ix2 r e) then 1 else 0 := by
  rw [extui_apply, StableHlo.Predicate.toNat_setWidth_bit]
  refine if_congr ?_ rfl rfl
  show BitVec.ofBool (decide (Ideal.ofBits .f32 0x00000000#32 < v (ix2 r e))) = 1#1 ↔ _
  rw [Ideal.ofBits_zero_f32, ofBool_decide_eq_one_iff]

/-- A block's counts. -/
theorem pay4_apply (v : FVec Ideal S16x8 .f32) (e : Fin 8) :
    k0_pay4 (F := Ideal) v (ix2 (0 : Fin 1) e) = BitVec.ofNat 32 (positives v e) := by
  classical
  unfold k0_pay4
  rw [shapeCast_apply _ _ (ix2 (0 : Fin 1) e) (ix1 e) (by
    rw [Shape.rowMajor_val_one, Shape.rowMajor_val_two]
    show e.val = 0 * 8 + e.val
    omega)]
  refine (multiReductionI_eq_fold .add _ _ reduces_S16x8_S8 rfl (ix1 e)).trans ?_
  rw [Shape.Reduces.fold_filter_drop_single]
  have hsum : ∑ r : Fin 16, (extui 32 (cmpf .ogt v (broadcast S16x8 (Scalar.ofBits .f32 0x00000000#32))) natLt_1_32
      (reduces_S16x8_S8.lift (ix1 e) r)).toNat = positives v e := by
    unfold positives
    rw [Finset.card_filter]
    exact Finset.sum_congr rfl fun r _ => by rw [rows_lift_eq, positive_apply]
  have hle : positives v e < 2 ^ 32 := (Finset.card_le_univ _).trans_lt (by simp)
  apply BitVec.eq_of_toNat_eq
  rw [toNat_ofNat_of_lt hle]
  exact (StableHlo.Predicate.toNat_fold_addi (Finset.univ : Finset (Fin 16)) _ (by rw [← hsum] at hle; exact hle)).trans hsum

/-- A later block adds its counts to the running ones. -/
theorem pay5_apply (v : FVec Ideal S16x8 .f32) (o : IVec S1x8 32) (e : Fin 8) :
    k0_pay5 (F := Ideal) v o (ix2 (0 : Fin 1) e) = o (ix2 (0 : Fin 1) e) + BitVec.ofNat 32 (positives v e) := by
  rw [← pay4_apply]
  unfold k0_pay5
  rw [shapeCast_self]
  rfl

end Cert.KernelIdeal.Block

end
-- ==== Proof.Host.lean ====
/- The arrays that the kernel's region reads, at an index, in terms of the five arguments: the transposed input, the
   start weights laid out block-diagonally, the gate weights, the folded bias; and each grid point's blocks of them. -/
module

public import proofs.«01_k».proof.Proof.Gen.KernelIdeal.Frame
public import proofs.«01_k».proof.Proof.Block
public import Idealize.ShloMosaic.Lib.Claim
public import Idealize.ShloMosaic.Lib.StableHlo.ReadAt

@[expose] public section

noncomputable section

namespace Cert.KernelIdeal.Host

open Idealize.ShloMosaic hiding ix1 ix2 ix3
open Idealize.ShloMosaic.TcCoe Idealize.ShloMosaic.ValueIdx Idealize.ShloMosaic.WordCmp Cert.KernelIdeal Cert.KernelIdeal.Gen
open Cert.KernelIdeal.Block Idealize.SL.Sem

variable (m : (ℓ : Loc nD τ sig) → Buf (Elt Ideal) ℓ) (c : Dev nD)

/-! ## The five arguments, as arrays of extended reals -/

abbrev argX : FVec Ideal S128x2048x64 .f32 := m ((c : Thread nD τ).loc main_arg0)
abbrev argW : FVec Ideal S64x1 .f32 := m ((c : Thread nD τ).loc main_arg1)
abbrev argB : FVec Ideal S1 .f32 := m ((c : Thread nD τ).loc main_arg2)
abbrev argG : FVec Ideal S2048x8 .f32 := m ((c : Thread nD τ).loc main_arg3)
abbrev argC : FVec Ideal S8 .f32 := m ((c : Thread nD τ).loc main_arg4)

/-! ## The host operations before the region -/

/-- The transposed input. -/
theorem V_x (b : Fin 128) (n : Fin 64) (s : Fin 2048) :
    (V m c main_call0_v0 : FVec Ideal S128x64x2048 .f32) (ix3 b n s) = argX m c (ix3 b s n) := by
  unfold V V0
  after_reads_at
  refine congrArg (argX m c) (funext fun a => ?_)
  match a with
  | ⟨0, _⟩ => rfl
  | ⟨1, _⟩ => rfl
  | ⟨2, _⟩ => rfl

/-- The start weights, one copy per row of a block, on the block diagonal. -/
theorem V_ws (r q : Fin 16) (n : Fin 64) :
    (V m c main_call0_v13 : FVec Ideal S16x1024 .f32) (ix2 r (flat q n)) = (if r = q then 1 else 0) * argW m c (ix2 n (0 : Fin 1)) := by
  unfold V V0
  after_reads_at
  have h1 : (64 * q.val + n.val) / 64 = q.val := by omega
  have h2 : (64 * q.val + n.val) % 64 = n.val := by omega
  show FloatOps.uitofp (F := Ideal) .f32 (IntOp.cmpi .eq (IntOp.addi (BitVec.ofNat 32 r.val) 0#32) (BitVec.ofNat 32 ((64 * q.val + n.val) / 64)))
    * _ = _
  refine congrArg₂ (· * ·) ?_ (congrArg (argW m c) (funext fun a => ?_))
  · rw [h1, show IntOp.addi (BitVec.ofNat 32 r.val) 0#32 = BitVec.ofNat 32 r.val from BitVec.add_zero _,
      cmpi_eq_ofNat (by omega) (by omega)]
    show (((BitVec.ofBool (decide (r.val = q.val))).toNat : ℝ) : EReal) = _
    by_cases h : r = q
    · rw [if_pos h, decide_eq_true (Fin.ext_iff.mp h)]; simp
    · rw [if_neg h, decide_eq_false (fun e => h (Fin.ext e))]; simp
  · match a with
    | ⟨0, _⟩ => exact Fin.ext h2
    | ⟨1, _⟩ => rfl

theorem cols_lift_eq (h : S2048x8.Reduces [0] S8) (e : Fin 8) (s : Fin 2048) : h.lift (ix1 e) s = ix2 s e := by
  funext a
  match a with
  | ⟨0, _⟩ => rfl
  | ⟨1, _⟩ => rfl

/-- The gate bias with the start bias folded in: `b_gate + b_start · (column sums of the gate weights)`. -/
theorem V_bg (e : Fin 8) : (V m c main_call0_v18 : FVec Ideal S8 .f32) (ix1 e)
    = argC m c (ix1 e) + argB m c (ix1 (0 : Fin 1)) * ∑ s : Fin 2048, argG m c (ix2 s e) := by
  unfold V V0
  after_reads_at
  refine congrArg₂ (· + ·) rfl (congrArg₂ (· * ·) (congrArg (argB m c) (ValueIdx.eq_ix1 _)) ?_)
  refine (Ideal.hostReduceAdd_single reducesTo_S2048x8_S8_d0 (by decide : S2048x8.Reduces [0] S8) _ _ (ix1 e)).trans ?_
  show Ideal.ofBits .f32 0x00000000#32 + _ = _
  rw [Ideal.ofBits_zero_f32, zero_add]
  exact Finset.sum_congr rfl fun (s : Fin 2048) _ => congrArg (argG m c) (cols_lift_eq _ e s)

/-! ## The blocks a grid point reads -/

/-- The grid point of row block `i` and half `j`. -/
def pt (i : Fin 8) (j : Fin 2) : Fin cfg0.N := ⟨2 * i.val + j.val, by rw [show cfg0.N = 16 from N_0]; omega⟩
/-- Row `r` of row block `i`. -/
def row (i : Fin 8) (r : Fin 16) : Fin 128 := ⟨16 * i.val + r.val, by omega⟩
/-- Position `s` of half `j` of the sequence axis. -/
def pos (j : Fin 2) (s : Fin 1024) : Fin 2048 := ⟨1024 * j.val + s.val, by omega⟩

theorem index0 : ∀ (i : Fin 8) (j : Fin 2), win0_0.index (pt i j) 0 = i.val ∧ win0_0.index (pt i j) 1 = 0 ∧ win0_0.index (pt i j) 2 = j.val := by
  decide +kernel
theorem index1 : ∀ (i : Fin 8) (j : Fin 2), win0_1.index (pt i j) 0 = 0 ∧ win0_1.index (pt i j) 1 = 0 := by decide +kernel
theorem index2 : ∀ (i : Fin 8) (j : Fin 2), win0_2.index (pt i j) 0 = j.val ∧ win0_2.index (pt i j) 1 = 0 := by decide +kernel
theorem index3 : ∀ (i : Fin 8) (j : Fin 2), win0_3.index (pt i j) 0 = 0 := by decide +kernel

/-- The input block: rows `16 i …`, positions `1024 j …`. -/
theorem iblk0 (i : Fin 8) (j : Fin 2) (q : Fin 16) (n : Fin 64) (s : Fin 1024) :
    (iblk m c 0 (pt i j) : FVec Ideal S16x64x1024 .f32) (ix3 q n s) = argX m c (ix3 (row i q) (pos j s) n) := by
  have hi := index0 i j
  refine Eq.trans ?_ (V_x m c (row i q) n (pos j s))
  unfold iblk
  rw [View.read_apply]
  show V m c main_call0_v0 _ = V m c main_call0_v0 _
  congr 1
  funext a
  apply Fin.ext
  match a with
  | ⟨0, _⟩ => show win0_0.index (pt i j) 0 * 16 + 1 * q.val = 16 * i.val + q.val; rw [hi.1]; omega
  | ⟨1, _⟩ => show win0_0.index (pt i j) 1 * 64 + 1 * n.val = n.val; rw [hi.2.1]; omega
  | ⟨2, _⟩ => show win0_0.index (pt i j) 2 * 1024 + 1 * s.val = 1024 * j.val + s.val; rw [hi.2.2]; omega

/-- The block-diagonal start weights, whole at every point. -/
theorem iblk1 (i : Fin 8) (j : Fin 2) (r q : Fin 16) (n : Fin 64) :
    (iblk m c 1 (pt i j) : FVec Ideal S16x1024 .f32) (ix2 r (flat q n)) = (if r = q then 1 else 0) * argW m c (ix2 n (0 : Fin 1)) := by
  have hi := index1 i j
  refine Eq.trans ?_ (V_ws m c r q n)
  unfold iblk
  rw [View.read_apply]
  show V m c main_call0_v13 _ = V m c main_call0_v13 _
  congr 1
  funext a
  apply Fin.ext
  match a with
  | ⟨0, _⟩ => show win0_1.index (pt i j) 0 * 16 + 1 * r.val = r.val; rw [hi.1]; omega
  | ⟨1, _⟩ => show win0_1.index (pt i j) 1 * 1024 + 1 * (flat q n).val = (flat q n).val; rw [hi.2]; omega

/-- The gate weights' positions `1024 j …`. -/
theorem iblk2 (i : Fin 8) (j : Fin 2) (s : Fin 1024) (e : Fin 8) :
    (iblk m c 2 (pt i j) : FVec Ideal S1024x8 .f32) (ix2 s e) = argG m c (ix2 (pos j s) e) := by
  have hi := index2 i j
  refine Eq.trans ?_ (congrFun (V_main_arg3 m c) (ix2 (pos j s) e))
  unfold iblk
  rw [View.read_apply]
  show V m c main_arg3 _ = V m c main_arg3 _
  congr 1
  funext a
  apply Fin.ext
  match a with
  | ⟨0, _⟩ => show win0_2.index (pt i j) 0 * 1024 + 1 * s.val = 1024 * j.val + s.val; rw [hi.1]; omega
  | ⟨1, _⟩ => show win0_2.index (pt i j) 1 * 8 + 1 * e.val = e.val; rw [hi.2]; omega

/-- The folded bias, whole at every point. -/
theorem iblk3 (i : Fin 8) (j : Fin 2) (e : Fin 8) : (iblk m c 3 (pt i j) : FVec Ideal S8 .f32) (ix1 e)
    = argC m c (ix1 e) + argB m c (ix1 (0 : Fin 1)) * ∑ s : Fin 2048, argG m c (ix2 s e) := by
  have hi := index3 i j
  refine Eq.trans ?_ (V_bg m c e)
  unfold iblk
  rw [View.read_apply]
  show V m c main_call0_v18 _ = V m c main_call0_v18 _
  congr 1
  funext a
  apply Fin.ext
  match a with
  | ⟨0, _⟩ => show win0_3.index (pt i j) 0 * 8 + 1 * e.val = e.val; rw [hi]; omega

end Cert.KernelIdeal.Host

end
-- ==== Proof.Sweep.lean ====
/- What the grid leaves behind: after the second half of row block `i` the gates' block holds the gates of the block's
   16 rows, and the load row holds the counts of positive gates among all rows up to there. -/
module

public import proofs.«01_k».proof.Proof.Cases
public import proofs.«01_k».proof.Proof.Host

@[expose] public section

noncomputable section

namespace Cert.KernelIdeal.Sweep

open Idealize.ShloMosaic hiding ix1 ix2 ix3
open Idealize.ShloMosaic.TcCoe Idealize.ShloMosaic.ValueIdx Cert.KernelIdeal Cert.KernelIdeal.Gen
open Cert.KernelIdeal.Block Cert.KernelIdeal.Host Cert.KernelIdeal.Value Idealize.SL.Sem

variable (m : (ℓ : Loc nD τ sig) → Buf (Elt Ideal) ℓ) (c : Dev nD)

/-- The partial logits of row block `i` over half `j` of the sequence axis. -/
def part (i : Fin 8) (j : Fin 2) : FVec Ideal S16x8 .f32 :=
  k0_pay1 (F := Ideal) (iblk m c 0 (pt i j)) (iblk m c 1 (pt i j)) (iblk m c 2 (pt i j))

/-- The gates of row block `i`. -/
def blockGates (i : Fin 8) : FVec Ideal S16x8 .f32 :=
  k0_pay6 (F := Ideal) (addf (part m c i 0) (part m c i 1)) (iblk m c 3 (pt i 1))

/-- What point `n` leaves depends on the number of the point only. -/
theorem outs_congr {n n' : ℕ} (h : n = n') (hn : n < cfg0.N) (hn' : n' < cfg0.N) : outsAt0 m c n hn = outsAt0 m c n' hn' := by
  subst h; rfl

/-- What the second half of the row block before `i` leaves: the state that block `i` starts from. -/
def left (i : Fin 8) : Vec Ideal S16x8 .f32 × Vec Ideal S1x8 .i32 × Vec Ideal S16x8 .f32 :=
  outsAt0 m c ((pt i 0).val - 1) (Nat.lt_of_le_of_lt (Nat.sub_le _ _) (pt i 0).isLt)

/-- What the first half of row block `i` leaves. -/
def half (i : Fin 8) : Vec Ideal S16x8 .f32 × Vec Ideal S1x8 .i32 × Vec Ideal S16x8 .f32 :=
  outsAt0 m c (pt i 0).val (pt i 0).isLt

/-- What the second half of row block `i` leaves. -/
def full (i : Fin 8) : Vec Ideal S16x8 .f32 × Vec Ideal S1x8 .i32 × Vec Ideal S16x8 .f32 :=
  outsAt0 m c (pt i 1).val (pt i 1).isLt

theorem left_succ (n : ℕ) (hn : n + 1 < 8) : left m c ⟨n + 1, hn⟩ = full m c ⟨n, by omega⟩ :=
  outs_congr m c (show 2 * (n + 1) + 0 - 1 = 2 * n + 1 by omega) _ _

/-- The first half of a row block starts the accumulator. -/
theorem half_acc (i : Fin 8) : (half m c i).2.2 = part m c i 0 := by
  have hv : (pt i 0).val = 2 * i.val := rfl
  unfold half
  rw [outsAt0_A m c (pt i 0) (by omega) (by omega) (by omega)]
  dsimp only
  exact (acc_A ..).trans (pay2_eq _ _ _)

/-- The first half of a later row block leaves the load row alone. -/
theorem half_load (i : Fin 8) (h : i ≠ 0) : (half m c i).2.1 = (left m c i).2.1 := by
  have hv : (pt i 0).val = 2 * i.val := rfl
  unfold half
  rw [outsAt0_A m c (pt i 0) (by omega) (by omega) (by omega)]
  rfl

/-- The state before the second half is the one after the first. -/
theorem before_full (i : Fin 8) (hn : (pt i 1).val - 1 < cfg0.N) : outsAt0 m c ((pt i 1).val - 1) hn = half m c i :=
  outs_congr m c (show 2 * i.val + 1 - 1 = 2 * i.val by omega) _ _

/-- The second half of row block 0 writes the block's gates and starts the counts. -/
theorem full_zero : (full m c 0).1 = blockGates m c 0 ∧ (full m c 0).2.1 = k0_pay4 (F := Ideal) (blockGates m c 0) := by
  have hv : (pt 0 1).val = 1 := rfl
  unfold full
  rw [outsAt0_B m c (pt 0 1) (by omega) (by omega) (by omega) (by omega) (by omega), before_full]
  have hp : k0_pay3 (F := Ideal) (iblk m c 0 (pt 0 1)) (iblk m c 1 (pt 0 1)) (iblk m c 2 (pt 0 1)) (half m c 0).2.2
      = addf (part m c 0 0) (part m c 0 1) := by rw [pay3_eq, half_acc]; rfl
  dsimp only
  refine ⟨(gates_B ..).trans ?_, (load_B ..).trans ?_⟩
  · rw [hp]; rfl
  · rw [hp]; rfl

/-- The second half of a later row block writes the block's gates and adds to the counts. -/
theorem full_later (i : Fin 8) (h : i ≠ 0) :
    (full m c i).1 = blockGates m c i ∧ (full m c i).2.1 = k0_pay5 (F := Ideal) (blockGates m c i) (left m c i).2.1 := by
  have hv : (pt i 1).val = 2 * i.val + 1 := rfl
  have h0 : i.val ≠ 0 := fun e => h (Fin.ext e)
  unfold full
  rw [outsAt0_C m c (pt i 1) (by omega) (by omega) (by omega) (by omega) (by omega), before_full, half_load m c i h]
  have hp : k0_pay3 (F := Ideal) (iblk m c 0 (pt i 1)) (iblk m c 1 (pt i 1)) (iblk m c 2 (pt i 1)) (half m c i).2.2
      = addf (part m c i 0) (part m c i 1) := by rw [pay3_eq, half_acc]; rfl
  dsimp only
  refine ⟨(gates_C ..).trans ?_, (load_C ..).trans ?_⟩
  · rw [hp]; rfl
  · rw [hp]; rfl

/-- How many of the rows of the blocks `0 … n` have a positive gate for expert `e`. -/
def countTo (n : ℕ) (e : Fin 8) : ℕ := ∑ i ∈ Finset.univ.filter (fun i : Fin 8 => i.val ≤ n), positives (blockGates m c i) e

theorem countTo_zero (e : Fin 8) : countTo m c 0 e = positives (blockGates m c 0) e := by
  unfold countTo
  rw [show Finset.univ.filter (fun i : Fin 8 => i.val ≤ 0) = {0} by decide, Finset.sum_singleton]

theorem countTo_succ (n : ℕ) (hn : n + 1 < 8) (e : Fin 8) :
    countTo m c (n + 1) e = countTo m c n e + positives (blockGates m c ⟨n + 1, hn⟩) e := by
  unfold countTo
  have hs : Finset.univ.filter (fun i : Fin 8 => i.val ≤ n + 1)
      = insert ⟨n + 1, hn⟩ (Finset.univ.filter (fun i : Fin 8 => i.val ≤ n)) := by
    ext i
    simp only [Finset.mem_filter, Finset.mem_univ, true_and, Finset.mem_insert, Fin.ext_iff]
    omega
  rw [hs, Finset.sum_insert (by simp), add_comm]

/-- What holds after row block `i`: its gates, and the counts so far. -/
def After (i : Fin 8) : Prop :=
  (full m c i).1 = blockGates m c i
    ∧ ∀ e : Fin 8, (full m c i).2.1 (ix2 (0 : Fin 1) e) = BitVec.ofNat 32 (countTo m c i.val e)

theorem after_zero : After m c 0 := by
  have hs := full_zero m c
  refine ⟨hs.1, fun e => ?_⟩
  rw [hs.2, pay4_apply]
  exact congrArg (BitVec.ofNat 32) (countTo_zero m c e).symm

theorem after_succ (n : ℕ) (hn : n + 1 < 8) (ih : After m c ⟨n, by omega⟩) : After m c ⟨n + 1, hn⟩ := by
  have hs := full_later m c ⟨n + 1, hn⟩ (fun e => by simp [Fin.ext_iff] at e)
  refine ⟨hs.1, fun e => ?_⟩
  rw [hs.2, pay5_apply, left_succ, ih.2 e, countTo_succ m c n hn, ← BitVec.ofNat_add]

theorem after_block : ∀ (n : ℕ) (hn : n < 8), After m c ⟨n, hn⟩
  | 0, _ => after_zero m c
  | n + 1, hn => after_succ m c n hn (after_block n (by omega))

/-- The gates' block that row block `i` leaves. -/
theorem full_gates (i : Fin 8) : (full m c i).1 = blockGates m c i := (after_block m c i.val i.isLt).1

/-- The load row that the last row block leaves: the counts over all 8 blocks. -/
theorem full_load (e : Fin 8) : (full m c 7).2.1 (ix2 (0 : Fin 1) e) = BitVec.ofNat 32 (∑ i : Fin 8, positives (blockGates m c i) e) := by
  refine ((after_block m c 7 (by decide)).2 e).trans (congrArg (BitVec.ofNat 32) ?_)
  unfold countTo
  rw [show Finset.univ.filter (fun i : Fin 8 => i.val ≤ ((7 : ℕ))) = Finset.univ by decide]

end Cert.KernelIdeal.Sweep

end
-- ==== Proof.Arrays.lean ====
/- The whole run of the kernel: the gates array as its eight blocks, the load row, and the load array that the host
   makes of that row after the region. -/
module

public import proofs.«01_k».proof.Proof.Sweep
public import Idealize.ShloMosaic.Lib.Pipeline.Value

@[expose] public section

noncomputable section

namespace Cert.KernelIdeal.Arrays

open Idealize.ShloMosaic hiding ix1 ix2 ix3
open Idealize.ShloMosaic.TcCoe Idealize.ShloMosaic.ValueIdx Cert.KernelIdeal Cert.KernelIdeal.Gen
open Cert.KernelIdeal.Block Cert.KernelIdeal.Host Cert.KernelIdeal.Sweep Idealize.SL.Sem

variable (m : (ℓ : Loc nD τ sig) → Buf (Elt Ideal) ℓ) (ρ : Dev nD → PrngReg) (c : Dev nD)

/-- The row block that row `b` lies in. -/
def blockOf (b : Fin 128) : Fin 8 := ⟨b.val / 16, by omega⟩
/-- The place of row `b` in its row block. -/
def placeOf (b : Fin 128) : Fin 16 := ⟨b.val % 16, by omega⟩

/-- The gates array after the run: row `b` is its row of its block's gates. -/
def gates : FVec Ideal S128x8 .f32 := fun i => (full m c (blockOf (i 0))).1 (ix2 (placeOf (i 0)) (i 1))

/-- The load row after the region: what the last row block leaves. -/
def loadRow : IVec S1x8 32 := (full m c 7).2.1

/-- The load array after the run: the load row without its unit axis. -/
def load : IVec S8 32 := shapeCast S8 (loadRow m c) shapeCasts_S1x8_S8

/-! ## The gates array -/

theorem index4 : ∀ t : Fin cfg0.N, win0_4.index t (0 : Fin 2) = t.val / 2 ∧ win0_4.index t (1 : Fin 2) = 0 :=
  (by decide +kernel : ∀ t : Fin grid0.N, _)

/-- Which indices of the gates array point `t`'s block covers. -/
theorem mem_block4 (t : Fin cfg0.N) (i : S128x8.Idx) : i ∈ ((cfg0.win 4).blk t).view.set
    ↔ ∀ a : Fin 2, win0_4.index t a * S16x8.size a ≤ (i a).val ∧ (i a).val < win0_4.index t a * S16x8.size a + S16x8.size a := by
  show i ∈ ((View.whole main_v0_0).slice (win0_4.rect t)).set ↔ _
  rw [View.set_slice_whole, Rect.mem_set_unit]
  exact Iff.rfl

/-- The gates array at an index, as what the point `t` that writes there leaves. -/
theorem gates_at (t : Fin cfg0.N) (j : S128x8.Idx) (k : S16x8.Idx) (ht : 2 * ((j 0).val / 16) + 1 = t.val)
    (h0 : (k 0).val = (j 0).val % 16) (h1 : (k 1).val = (j 1).val) : gates m c j = (outsAt0 m c t.val t.isLt).1 k := by
  have hk : ix2 (placeOf (j 0)) (j 1) = k := funext fun a => Fin.ext (match a with | ⟨0, _⟩ => h0.symm | ⟨1, _⟩ => h1.symm)
  exact (congrArg (full m c (blockOf (j 0))).1 hk).trans
    (congrArg (fun z : Vec Ideal S16x8 .f32 × Vec Ideal S1x8 .i32 × Vec Ideal S16x8 .f32 => z.1 k) (outs_congr m c ht _ t.isLt))

/-- What a point that writes its block back writes is that block of `gates`. -/
theorem written4 (t : Fin cfg0.N) (hf : (cfg0.win 4).flush t = true) :
    (dats m 0 c).flushed 4 t = ((cfg0.win 4).blk t).view.read (Elt Ideal) (gates m c) := by
  show (cfg0.win 4).cut (grid0.coords t) ((dats m 0 c).after 4 t) = _
  rw [after0_4]
  have hm : t.val % 2 = 1 := (flush0_4 t).mp hf
  have hN : t.val < 16 := lt_of_lt_of_eq t.isLt (show cfg0.N = 16 from N_0)
  obtain ⟨e0, e1⟩ := index4 t
  funext y
  have hy0 : (y 0).val < 16 := (y 0).isLt
  have hb0 : (((cfg0.win 4).blk t).view.emb y 0).val = win0_4.index t (0 : Fin 2) * 16 + 1 * (y 0).val := rfl
  have hb1 : (((cfg0.win 4).blk t).view.emb y 1).val = win0_4.index t (1 : Fin 2) * 8 + 1 * (y 1).val := rfl
  rw [View.read_apply]
  show (outsAt0 m c t.val t.isLt).1 ((cfg0.win 4).xinj (grid0.coords t) y) = _
  refine (gates_at m c t _ _ ?_ ?_ ?_).symm
  · rw [hb0]; omega
  · show (y 0).val = _; rw [hb0]; omega
  · show (y 1).val = _; rw [hb1, e1]; omega

/-- The blocks that are written back cover the gates array. -/
theorem covered4 (i : S128x8.Idx) : ∃ t : Fin cfg0.N, (cfg0.win 4).flush t = true ∧ i ∈ ((cfg0.win 4).blk t).view.set := by
  have h0 : (i 0).val < 128 := (i 0).isLt
  have h1 : (i 1).val < 8 := (i 1).isLt
  refine ⟨pt (blockOf (i 0)) 1, (flush0_4 _).mpr (show (2 * ((i 0).val / 16) + 1) % 2 = 1 by omega), ?_⟩
  obtain ⟨e0, e1⟩ := index4 (pt (blockOf (i 0)) 1)
  have hv : (pt (blockOf (i 0)) 1).val = 2 * ((i 0).val / 16) + 1 := rfl
  rw [mem_block4]
  intro a
  match a with
  | ⟨0, _⟩ =>
    show win0_4.index _ (0 : Fin 2) * 16 ≤ (i 0).val ∧ (i 0).val < win0_4.index _ (0 : Fin 2) * 16 + 16
    omega
  | ⟨1, _⟩ =>
    show win0_4.index _ (1 : Fin 2) * 8 ≤ (i 1).val ∧ (i 1).val < win0_4.index _ (1 : Fin 2) * 8 + 8
    omega

theorem gates_final : (dats m 0 c).arrAt 4 cfg0.N = gates m c :=
  (dats m 0 c).arrAt_eq_of_cover 4 _ (fun t hf => written4 m c t hf) covered4

/-! ## The load row -/

theorem index5 : ∀ t : Fin cfg0.N, win0_5.index t (0 : Fin 2) = 0 ∧ win0_5.index t (1 : Fin 2) = 0 :=
  (by decide +kernel : ∀ t : Fin grid0.N, _)

/-- Which indices of the load row point `t`'s block covers. -/
theorem mem_block5 (t : Fin cfg0.N) (i : S1x8.Idx) : i ∈ ((cfg0.win 5).blk t).view.set
    ↔ ∀ a : Fin 2, win0_5.index t a * S1x8.size a ≤ (i a).val ∧ (i a).val < win0_5.index t a * S1x8.size a + S1x8.size a := by
  show i ∈ ((View.whole main_call0_v19_1).slice (win0_5.rect t)).set ↔ _
  rw [View.set_slice_whole, Rect.mem_set_unit]
  exact Iff.rfl

/-- The load row at an index, as what the last point leaves. -/
theorem row_at (t : Fin cfg0.N) (j k : S1x8.Idx) (ht : 15 = t.val) (hk : k = j) :
    loadRow m c j = (outsAt0 m c t.val t.isLt).2.1 k := by
  subst hk
  show (outsAt0 m c (pt 7 1).val _).2.1 k = _
  rw [outs_congr m c (n := (pt 7 1).val) ht _ t.isLt]

/-- The one point that writes the load row back writes `loadRow`. -/
theorem written5 (t : Fin cfg0.N) (hf : (cfg0.win 5).flush t = true) :
    (dats m 0 c).flushed 5 t = ((cfg0.win 5).blk t).view.read (Elt Ideal) (loadRow m c) := by
  show (cfg0.win 5).cut (grid0.coords t) ((dats m 0 c).after 5 t) = _
  rw [after0_5]
  have hm : t.val % 16 = 15 := (flush0_5 t).mp hf
  have hN : t.val < 16 := lt_of_lt_of_eq t.isLt (show cfg0.N = 16 from N_0)
  obtain ⟨e0, e1⟩ := index5 t
  funext y
  have hb0 : (((cfg0.win 5).blk t).view.emb y 0).val = win0_5.index t (0 : Fin 2) * 1 + 1 * (y 0).val := rfl
  have hb1 : (((cfg0.win 5).blk t).view.emb y 1).val = win0_5.index t (1 : Fin 2) * 8 + 1 * (y 1).val := rfl
  rw [View.read_apply]
  show (outsAt0 m c t.val t.isLt).2.1 ((cfg0.win 5).xinj (grid0.coords t) y) = _
  refine (row_at m c t _ _ (by omega) (funext fun a => Fin.ext ?_)).symm
  match a with
  | ⟨0, _⟩ => show (y 0).val = (((cfg0.win 5).blk t).view.emb y 0).val; rw [hb0, e0]; omega
  | ⟨1, _⟩ => show (y 1).val = (((cfg0.win 5).blk t).view.emb y 1).val; rw [hb1, e1]; omega

/-- Its block is the whole row. -/
theorem covered5 (i : S1x8.Idx) : ∃ t : Fin cfg0.N, (cfg0.win 5).flush t = true ∧ i ∈ ((cfg0.win 5).blk t).view.set := by
  have h0 : (i 0).val < 1 := (i 0).isLt
  have h1 : (i 1).val < 8 := (i 1).isLt
  refine ⟨pt 7 1, (flush0_5 _).mpr rfl, ?_⟩
  obtain ⟨e0, e1⟩ := index5 (pt 7 1)
  rw [mem_block5]
  intro a
  match a with
  | ⟨0, _⟩ =>
    show win0_5.index _ (0 : Fin 2) * 1 ≤ (i 0).val ∧ (i 0).val < win0_5.index _ (0 : Fin 2) * 1 + 1
    omega
  | ⟨1, _⟩ =>
    show win0_5.index _ (1 : Fin 2) * 8 ≤ (i 1).val ∧ (i 1).val < win0_5.index _ (1 : Fin 2) * 8 + 8
    omega

theorem row_final : (dats m 0 c).arrAt 5 cfg0.N = loadRow m c :=
  (dats m 0 c).arrAt_eq_of_cover 5 _ (fun t hf => written5 m c t hf) covered5

/-! ## The run -/

/-- What the host's reshape after the region leaves in the load array. -/
theorem tail_load : Pipeline.afterTail₀ cfgs (dats m) 0 (V0 m) [hostOps1] c main_v0_1 = load m c := by
  unfold Pipeline.afterTail₀ load
  rw [← row_final m c]
  simp only [hostOps1, List.flatten_cons, List.flatten_nil, List.append_nil, StableHlo.after_cons, StableHlo.after_nil]
  refine (StableHlo.reshape_result ..).trans ?_
  refine congrArg (fun x => shapeCast S8 x shapeCasts_S1x8_S8) ?_
  exact Pipeline.withArrays_arr spec0 (by decide) c (V0 m c) (fun w => (dats m 0 c).arrAt w cfg0.N) 5

/-- The kernel's run: the gates array, the load array, and the arguments as they were. -/
theorem run : θ_run defs (onTc (τ := τ) (main (F := Ideal))) ⟨m, fun _ => 0, ρ⟩ fun r => ∀ c : Dev nD,
      r.2.mem ((c : Thread nD τ).loc main_v0_0) = gates m c
      ∧ r.2.mem ((c : Thread nD τ).loc main_v0_1) = load m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 4).trans (gates_final m c),
      ((h c).2 main_v0_1 (Pipeline.mem_restRefs_of main_v0_1 (by decide) (by decide))).trans (tail_load m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

/-! ## The two results, at an index -/

/-- The gates array at row `r` of block `i`. -/
theorem gates_apply (i : Fin 8) (r : Fin 16) (e : Fin 8) : gates m c (ix2 (row i r) e) = blockGates m c i (ix2 r e) := by
  have hi : blockOf (row i r) = i := Fin.ext (show (16 * i.val + r.val) / 16 = i.val by omega)
  have hr : placeOf (row i r) = r := Fin.ext (show (16 * i.val + r.val) % 16 = r.val by omega)
  show (full m c (blockOf (row i r))).1 (ix2 (placeOf (row i r)) e) = _
  rw [hi, hr, full_gates]

/-- The load array: the counts over all 8 blocks. -/
theorem load_apply (e : Fin 8) : load m c (ix1 e) = BitVec.ofNat 32 (∑ i : Fin 8, positives (blockGates m c i) e) := by
  refine Eq.trans ?_ (full_load m c e)
  unfold load loadRow
  refine shapeCast_apply _ shapeCasts_S1x8_S8 (ix1 e) (ix2 (0 : Fin 1) e) ?_
  rw [Shape.rowMajor_val_two, Shape.rowMajor_val_one]
  show 0 * 8 + e.val = e.val
  omega

end Cert.KernelIdeal.Arrays

end
-- ==== Proof.Spec.lean ====
/- The mathematics of one row of the gate: the first and second largest of eight logits, and the two softmax weights.
   No program is mentioned here; both programs' rows are shown to be `gate`. -/
module

public import Mathlib.Analysis.SpecialFunctions.Exp
public import Mathlib.Data.EReal.Basic
public import Idealize.ShloMosaic.Lib.SortPrefix
public import Idealize.ShloMosaic.Lib.SortFacts
public import Idealize.ShloMosaic.PureOps.Ideal
public import Idealize.ShloMosaic.PureOps.Reduce

@[expose] public section

noncomputable section

namespace Cert.Routing

open Idealize.ShloMosaic

variable {α : Type} [LinearOrder α]

/-- Position `i` holds a largest entry of `f`, and no earlier position holds one as large. -/
def IsFirst (f : Fin 8 → α) (i : Fin 8) : Prop := ∀ e, f e ≤ f i ∧ (e < i → f e < f i)

/-- Position `j` holds a largest entry of `f` among the positions other than `i`, and no earlier one of these is as large. -/
def IsSecond (f : Fin 8 → α) (i j : Fin 8) : Prop := j ≠ i ∧ ∀ e, e ≠ i → f e ≤ f j ∧ (e < j → f e < f j)

/-- In a nonempty set of positions some position is the first to hold the largest entry. -/
theorem exists_first_in (f : Fin 8 → α) (S : Finset (Fin 8)) (hS : S.Nonempty) :
    ∃ i ∈ S, ∀ e ∈ S, f e ≤ f i ∧ (e < i → f e < f i) := by
  obtain ⟨b, hb, hmax⟩ := S.exists_max_image f hS
  have hT : (S.filter fun e => f e = f b).Nonempty := ⟨b, Finset.mem_filter.2 ⟨hb, rfl⟩⟩
  refine ⟨(S.filter fun e => f e = f b).min' hT, (Finset.mem_filter.1 (Finset.min'_mem _ hT)).1, fun e he => ?_⟩
  have hi : f ((S.filter fun e => f e = f b).min' hT) = f b := (Finset.mem_filter.1 (Finset.min'_mem _ hT)).2
  rw [hi]
  refine ⟨hmax e he, fun hlt => lt_of_le_of_ne (hmax e he) fun heq => ?_⟩
  exact absurd (Finset.min'_le _ e (Finset.mem_filter.2 ⟨he, heq⟩)) (not_le.2 hlt)

/-- Every row has a first largest entry. -/
theorem exists_isFirst (f : Fin 8 → α) : ∃ i, IsFirst f i := by
  obtain ⟨i, -, h⟩ := exists_first_in f Finset.univ ⟨0, Finset.mem_univ _⟩
  exact ⟨i, fun e => h e (Finset.mem_univ _)⟩

/-- Every row has a second largest entry. -/
theorem exists_isSecond (f : Fin 8 → α) (i : Fin 8) : ∃ j, IsSecond f i j := by
  obtain ⟨j, hj, h⟩ := exists_first_in f (Finset.univ.erase i) (by
    rw [← Finset.card_pos, Finset.card_erase_of_mem (Finset.mem_univ _)]; decide)
  exact ⟨j, (Finset.mem_erase.1 hj).1, fun e he => h e (Finset.mem_erase.2 ⟨he, Finset.mem_univ _⟩)⟩

/-- The first largest entry is unchanged by reading the reals as extended reals. -/
theorem IsFirst.coe {l : Fin 8 → ℝ} {i : Fin 8} (h : IsFirst l i) : IsFirst (fun e => (l e : EReal)) i :=
  fun e => ⟨EReal.coe_le_coe_iff.2 (h e).1, fun hlt => EReal.coe_lt_coe_iff.2 ((h e).2 hlt)⟩

/-- The second largest entry is the first largest once the largest is replaced by `-∞`. -/
theorem IsSecond.masked {l : Fin 8 → ℝ} {i j : Fin 8} (h : IsSecond l i j) :
    IsFirst (fun e => if e = i then (⊥ : EReal) else (l e : EReal)) j := fun e => by
  simp only [if_neg h.1]
  by_cases he : e = i
  · simp only [if_pos he]
    exact ⟨bot_le, fun _ => EReal.bot_lt_coe _⟩
  · simp only [if_neg he]
    exact ⟨EReal.coe_le_coe_iff.2 (h.2 e he).1, fun hlt => EReal.coe_lt_coe_iff.2 ((h.2 e he).2 hlt)⟩

/-- The weights: with `t = exp(l j - l i)`, entry `i` gets `1/(1+t)`, entry `j` gets `t/(1+t)`, every other entry 0. -/
def gate (l : Fin 8 → ℝ) (i j e : Fin 8) : ℝ :=
  if e = i then 1 / (1 + Real.exp (l j - l i)) else if e = j then Real.exp (l j - l i) / (1 + Real.exp (l j - l i)) else 0

theorem gate_nonneg (l : Fin 8 → ℝ) (i j e : Fin 8) : 0 ≤ gate l i j e := by
  have := Real.exp_pos (l j - l i)
  unfold gate
  split
  · positivity
  · split
    · positivity
    · exact le_rfl

theorem gate_le_one (l : Fin 8 → ℝ) (i j e : Fin 8) : gate l i j e ≤ 1 := by
  have := Real.exp_pos (l j - l i)
  unfold gate
  split
  · rw [div_le_one (by positivity)]; linarith
  · split
    · rw [div_le_one (by positivity)]; linarith
    · exact zero_le_one

/-! ## The stable descending sort's first two positions -/

/-- Over positions listed in ascending order, a stable sort by a key is the sort by the key and then the position: the
    sort only ever asks whether a later element is before an earlier one, and there the position adds nothing. -/
theorem stableSort_position {n : ℕ} {κ : Type} [DecidableEq κ] (lt : κ → κ → Bool) (key : Fin n → κ) :
    ∀ l : List (Fin n), l.Pairwise (· < ·) → stableSort (fun k k' => lt (key k) (key k')) l
      = stableSort (fun k k' => lt (key k) (key k') || (decide (key k = key k') && decide (k < k'))) l
  | [], _ => rfl
  | a :: l, h => by
    rw [List.pairwise_cons] at h
    show insertBefore _ a (stableSort _ l) = insertBefore _ a (stableSort _ l)
    rw [← stableSort_position lt key l h.2]
    refine insertBefore_congr _ _ a _ fun b hb => ?_
    have hab : a < b := h.1 b ((perm_stableSort _ l).mem_iff.mp hb)
    simp [not_lt.2 hab.le]

/-- The descending stable sort of a row puts the first largest entry's position first and the second's next. -/
theorem sorted_two (f : Fin 8 → α) (i j : Fin 8) (hi : IsFirst f i) (hj : IsSecond f i j) (k : Fin 2) :
    sortedFrom (fun a b : Fin 8 => decide (f b < f a)) (k.castLE (by decide)) = (![i, j] : Fin 2 → Fin 8) k := by
  have hB := StrictTotalBefore.of_key_then_position (fun a b : α => decide (b < a)) f (by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)
  have e : sortPositions 8 (fun a b : Fin 8 => decide (f b < f a))
      = sortPositions 8 (fun k k' : Fin 8 => decide (f k' < f k) || (decide (f k = f k') && decide (k < k'))) :=
    stableSort_position (fun a b : α => decide (b < a)) f _ (List.pairwise_lt_finRange 8)
  have hs : ∀ p : Fin 8, sortedFrom (fun a b : Fin 8 => decide (f b < f a)) p
      = sortedFrom (fun k k' : Fin 8 => decide (f k' < f k) || (decide (f k = f k') && decide (k < k'))) p := fun p => by
    unfold sortedFrom
    simp only [List.get_eq_getElem, Fin.val_cast]
    exact List.getElem_of_eq e _
  -- no position but `i` itself is before `i`; none but `i` and `j` is before `j`
  have before_i : ∀ p, p ≠ i → (decide (f i < f p) || (decide (f p = f i) && decide (p < i))) = false := fun p _ => by
    have h := hi p
    simp only [Bool.or_eq_false_iff, decide_eq_false_iff_not, Bool.and_eq_false_iff, not_lt]
    refine ⟨h.1, ?_⟩
    by_cases hp : p < i
    · exact Or.inl (h.2 hp).ne
    · exact Or.inr (not_lt.1 hp)
  have before_j : ∀ p, p ≠ i → (decide (f j < f p) || (decide (f p = f j) && decide (p < j))) = false := fun p hp => by
    have h := hj.2 p hp
    simp only [Bool.or_eq_false_iff, decide_eq_false_iff_not, Bool.and_eq_false_iff, not_lt]
    refine ⟨h.1, ?_⟩
    by_cases hp : p < j
    · exact Or.inl (h.2 hp).ne
    · exact Or.inr (not_lt.1 hp)
  rw [hs]
  refine hB.sortedFrom_eq_of_prefix (by decide) (![i, j] : Fin 2 → Fin 8) ?_ ?_ ?_ k
  · intro a b hab
    match a, b with
    | 0, 0 => rfl
    | 1, 1 => rfl
    | 0, 1 => exact absurd hab.symm hj.1
    | 1, 0 => exact absurd hab hj.1
  · intro a b hab
    match a, b with
    | 0, 0 => exact absurd hab (lt_irrefl _)
    | 1, 1 => exact absurd hab (lt_irrefl _)
    | 0, 1 => exact before_i j hj.1
    | 1, 0 => exact absurd hab (by decide)
  · intro a p hp
    match a with
    | 0 => exact before_i p fun h => hp 0 h.symm
    | 1 => exact before_j p fun h => hp 0 h.symm

/-! ## Folds over the eight entries -/

/-- The maximum of a row, from `-∞`, is its first largest entry. -/
theorem fold_max_first (f : Fin 8 → EReal) (i : Fin 8) (hi : IsFirst f i) :
    (Finset.univ : Finset (Fin 8)).fold max (⊥ : EReal) f = f i := by
  show (Finset.univ : Finset (Fin 8)).sup f = f i
  exact le_antisymm (Finset.sup_le fun e _ => (hi e).1) (Finset.le_sup (f := f) (Finset.mem_univ i))

/-- The least position word among those marked, 8 standing for an unmarked one, is the first marked position. -/
theorem fold_min_first : ∀ (p : Fin 8 → Bool) (i : Fin 8), p i = true → (∀ e, e < i → p e = false) →
    (Finset.univ : Finset (Fin 8)).fold IKind.minsi.op 2147483647#32 (fun e => if p e then BitVec.ofNat 32 e.val else 8#32)
      = BitVec.ofNat 32 i.val := by
  decide +kernel

/-- In a row whose first largest entry is at `i`, `i` is the first position that equals the maximum. -/
theorem IsFirst.eq_max {f : Fin 8 → α} {i : Fin 8} (hi : IsFirst f i) (e : Fin 8) (he : e < i) : f e ≠ f i :=
  ((hi e).2 he).ne

end Cert.Routing

end
-- ==== Proof.Gates.lean ====
/- What the kernel makes of one row of logits: the two largest entries found by two masked maximum passes, and their
   two softmax weights written into an otherwise zero row. -/
module

public import proofs.«01_k».proof.Proof.Gen.KernelIdeal.Skeleton
public import proofs.«01_k».proof.Proof.Spec
public import Idealize.ShloMosaic.Lib.ValueIdx
public import Idealize.ShloMosaic.Lib.WordCmp
public import Idealize.ShloMosaic.Lib.IdealHost
public import Idealize.ShloMosaic.Lib.Pipeline.Value
public import Idealize.ShloMosaic.PureOps.Ideal.Laws

@[expose] public section

noncomputable section

namespace Cert.KernelIdeal.Gates

open Idealize.ShloMosaic Idealize.ShloMosaic.TcCoe Idealize.ShloMosaic.ValueIdx Idealize.ShloMosaic.WordCmp
  Cert.KernelIdeal Cert.KernelIdeal.Gen Cert.Routing

/-! ## The pieces of the computation, on a block of 16 rows -/

/-- The accumulated products plus the bias row. -/
def withBias (v : FVec Ideal S16x8 .f32) (b : FVec Ideal S8 .f32) : FVec Ideal S16x8 .f32 :=
  addf v (broadcastTo S16x8 (shapeCast S1x8 (shapeCast S8 b shapeCasts_S8_S8) shapeCasts_S8_S1x8) broadcasts_S1x8_S16x8)

/-- A column repeated across the 8 entries of each row. -/
def across {α : Type} (x : S16x1.Idx → α) : S16x8.Idx → α := broadcastTo S16x8 x broadcasts_S16x1_S16x8

/-- Each entry's position in its row. -/
def position : IVec S16x8 32 := iota .tc S16x8 32 [1] iota_S16x8_d1_w32

/-- Each row's maximum, as a column. -/
def rowMax (w : FVec Ideal S16x8 .f32) : FVec Ideal S16x1 .f32 :=
  shapeCast S16x1 (multiReduction .maximumf [1] S16 w 0xFF800000#32 reduces_S16x8_S16 (.inl rfl) rfl) shapeCasts_S16_S16x1

/-- Each row's first position of its maximum, as a column of words. -/
def rowArg (w : FVec Ideal S16x8 .f32) : IVec S16x1 32 :=
  shapeCast S16x1 (multiReductionI .minsi [1] S16 (select (cmpf .oeq w (across (rowMax w))) position (broadcast S16x8 8#32))
    2147483647#32 reduces_S16x8_S16 rfl) shapeCasts_S16_S16x1

/-- The bit "this entry is its row's first maximum". -/
def isArg (w : FVec Ideal S16x8 .f32) : IVec S16x8 1 := cmpi .eq position (across (rowArg w))

/-- The row with its first maximum replaced by `-∞`. -/
def masked (w : FVec Ideal S16x8 .f32) : FVec Ideal S16x8 .f32 :=
  select (isArg w) (broadcast S16x8 (Scalar.ofBits .f32 0xFF800000#32)) w

/-- The exponential of the second largest entry less the largest, as a column. -/
def ratio (w : FVec Ideal S16x8 .f32) : FVec Ideal S16x1 .f32 := exp (subf (rowMax (masked w)) (rowMax w))

/-- A column of ones. -/
def ones : FVec Ideal S16x1 .f32 := broadcast S16x1 (Scalar.ofBits .f32 0x3F800000#32)

/-- The two weights in their places, zero elsewhere. -/
def weights (w : FVec Ideal S16x8 .f32) : FVec Ideal S16x8 .f32 :=
  select (isArg w) (across (shapeCast S16x1 (divf ones (addf ones (ratio w))) shapeCasts_S16x1_S16x1))
    (select (isArg (masked w)) (across (shapeCast S16x1 (divf (ratio w) (addf ones (ratio w))) shapeCasts_S16x1_S16x1))
      (broadcast S16x8 (Scalar.ofBits .f32 0x00000000#32)))

/-- The kernel's gates are these weights of its biased logits. -/
theorem pay6_eq (v : FVec Ideal S16x8 .f32) (b : FVec Ideal S8 .f32) : k0_pay6 v b = weights (withBias v b) := rfl

/-! ## Each piece at an index -/

theorem across_apply {α : Type} (x : S16x1.Idx → α) (r : Fin 16) (e : Fin 8) : across x (ix2 r e) = x (ix2 r (0 : Fin 1)) := by
  refine broadcastTo_apply x _ (ix2 r e) (ix2 r (0 : Fin 1)) fun a => ?_
  match a with
  | ⟨0, _⟩ => rfl
  | ⟨1, _⟩ => rfl

theorem column_apply {α : Type} (x : S16.Idx → α) (r : Fin 16) :
    shapeCast S16x1 x shapeCasts_S16_S16x1 (ix2 r (0 : Fin 1)) = x (ix1 r) := by
  refine shapeCast_apply x _ (ix2 r (0 : Fin 1)) (ix1 r) ?_
  rw [Shape.rowMajor_val_one, Shape.rowMajor_val_two]
  show r.val = r.val * 1 + 0
  omega

theorem withBias_apply (v : FVec Ideal S16x8 .f32) (b : FVec Ideal S8 .f32) (r : Fin 16) (e : Fin 8) :
    withBias v b (ix2 r e) = v (ix2 r e) + b (ix1 e) := by
  unfold withBias
  rw [addf_apply, shapeCast_self]
  congr 1
  rw [broadcastTo_apply _ _ (ix2 r e) (ix2 (0 : Fin 1) e) fun a => by
    match a with
    | ⟨0, _⟩ => rfl
    | ⟨1, _⟩ => rfl]
  refine shapeCast_apply b _ (ix2 (0 : Fin 1) e) (ix1 e) ?_
  rw [Shape.rowMajor_val_one, Shape.rowMajor_val_two]
  show e.val = 0 * 8 + e.val
  omega

theorem position_apply (r : Fin 16) (e : Fin 8) : position (ix2 r e) = BitVec.ofNat 32 e.val := by
  unfold position
  rw [iota_at]
  show BitVec.ofNat 32 (0 * 8 + e.val) = _
  rw [Nat.zero_mul, Nat.zero_add]

/-- The word `0xFF800000` is `-∞`. -/
theorem ofBits_neg_top : Ideal.ofBits .f32 0xFF800000#32 = ⊥ := by simp [Ideal.ofBits, Ideal.ieee]

theorem lift_eq (r : Fin 16) (e : Fin 8) : reduces_S16x8_S16.lift (ix1 r) e = ix2 r e := by
  funext a
  match a with
  | ⟨0, _⟩ => rfl
  | ⟨1, _⟩ => rfl

section Row
variable {w : FVec Ideal S16x8 .f32} {r : Fin 16} {f : Fin 8 → EReal} (hw : ∀ e, w (ix2 r e) = f e) {i : Fin 8} (hi : IsFirst f i)
include hw hi

/-- A row's maximum is its first largest entry. -/
theorem rowMax_apply : rowMax w (ix2 r (0 : Fin 1)) = f i := by
  unfold rowMax
  rw [column_apply]
  refine ((Ideal.multiReduction_maximumf_single w _ reduces_S16x8_S16 (.inl rfl) rfl (ix1 r)).trans ?_).trans (fold_max_first f i hi)
  show Finset.fold max (Ideal.ofBits .f32 0xFF800000#32) _ _ = _
  rw [ofBits_neg_top]
  exact Finset.fold_congr fun (e : Fin 8) _ => (congrArg w (lift_eq r e)).trans (hw e)

/-- The position found is that of the first largest entry. -/
theorem rowArg_apply : rowArg w (ix2 r (0 : Fin 1)) = BitVec.ofNat 32 i.val := by
  classical
  unfold rowArg
  rw [column_apply]
  refine (multiReductionI_eq_fold .minsi _ _ reduces_S16x8_S16 rfl (ix1 r)).trans ?_
  rw [Shape.Reduces.fold_filter_drop_single]
  rw [← fold_min_first (fun e => decide (f e = f i)) i (decide_eq_true rfl) fun e he => decide_eq_false (hi.eq_max e he)]
  refine Finset.fold_congr fun (e : Fin 8) _ => (congrArg (select (cmpf .oeq w (across (rowMax w))) position
    (broadcast S16x8 8#32)) (lift_eq r e)).trans ?_
  rw [select_apply, cmpf_apply, across_apply, rowMax_apply hw hi, hw, position_apply, broadcast_apply]
  exact select_ofBool _ _ _

/-- The bit is set exactly at the first largest entry. -/
theorem isArg_apply (e : Fin 8) : isArg w (ix2 r e) = BitVec.ofBool (decide (e = i)) := by
  unfold isArg
  rw [cmpi_at, position_apply, across_apply, rowArg_apply hw hi, cmpi_eq_ofNat (by omega) (by omega)]
  congr 1
  exact decide_eq_decide.mpr Fin.ext_iff.symm

/-- Masking replaces the first largest entry by `-∞` and keeps the rest. -/
theorem masked_apply (e : Fin 8) : masked w (ix2 r e) = if e = i then ⊥ else f e := by
  unfold masked
  rw [select_apply, isArg_apply hw hi, broadcast_apply, hw, select_decide]
  show (if e = i then Ideal.ofBits .f32 0xFF800000#32 else f e) = _
  rw [ofBits_neg_top]

end Row

theorem ones_apply (r : Fin 16) : ones (ix2 r (0 : Fin 1)) = 1 := Ideal.ofBits_one_f32

/-- The quotient of two reals, the second nonzero, is the real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

section Row
variable {w : FVec Ideal S16x8 .f32} {r : Fin 16} {l : Fin 8 → ℝ} (hw : ∀ e, w (ix2 r e) = (l e : EReal)) {i j : Fin 8}
  (hi : IsFirst l i) (hj : IsSecond l i j)
include hw hi hj

theorem ratio_apply : ratio w (ix2 r (0 : Fin 1)) = (Real.exp (l j - l i) : EReal) := by
  have h1 := rowMax_apply hw hi.coe
  have h2 := rowMax_apply (masked_apply hw hi.coe) hj.masked
  show Ideal.exp (rowMax (masked w) (ix2 r (0 : Fin 1)) - rowMax w (ix2 r (0 : Fin 1))) = _
  rw [h1, h2, if_neg hj.1, ← EReal.coe_sub]
  rfl

/-- A row of real logits gets the two softmax weights at its two largest entries. -/
theorem weights_apply (e : Fin 8) : weights w (ix2 r e) = (gate l i j e : EReal) := by
  have ht := ratio_apply hw hi hj
  have hpos := Real.exp_pos (l j - l i)
  have hd : (1 : EReal) + (Real.exp (l j - l i) : EReal) = ((1 + Real.exp (l j - l i) : ℝ) : EReal) := by
    rw [EReal.coe_add, EReal.coe_one]
  unfold weights
  rw [select_apply, select_apply, isArg_apply hw hi.coe, isArg_apply (masked_apply hw hi.coe) hj.masked, select_decide,
    select_decide, across_apply, across_apply, shapeCast_self, shapeCast_self, divf_apply, divf_apply, addf_apply, ht, ones_apply,
    broadcast_apply, hd, show (1 : EReal) = ((1 : ℝ) : EReal) from rfl, div_coe _ _ (by positivity), div_coe _ _ (by positivity)]
  unfold gate
  split
  · rfl
  · split
    · rfl
    · exact Ideal.ofBits_zero_f32

end Row

/-- The kernel's gates on a row whose biased logits are real. -/
theorem gates_row (v : FVec Ideal S16x8 .f32) (b : FVec Ideal S8 .f32) (r : Fin 16) (l : Fin 8 → ℝ)
    (hl : ∀ e, v (ix2 r e) + b (ix1 e) = (l e : EReal)) (i j : Fin 8) (hi : IsFirst l i) (hj : IsSecond l i j) (e : Fin 8) :
    k0_pay6 (F := Ideal) v b (ix2 r e) = (gate l i j e : EReal) := by
  rw [pay6_eq]
  exact weights_apply (fun e => by rw [withBias_apply, hl]) hi hj e

end Cert.KernelIdeal.Gates

end
-- ==== Proof.Logit.lean ====
/- The logits of the routing, over the reals: what both programs compute when every argument is a real number; and
   the algebra that joins the kernel's way of summing to the reference's. -/
module

public import Mathlib.Data.EReal.Operations
public import Mathlib.Algebra.BigOperators.Ring.Finset
public import Mathlib.Algebra.BigOperators.Fin
public import Mathlib.Tactic.Ring
public import Mathlib.Tactic.NormNum

@[expose] public section

noncomputable section

namespace Cert.Routing

/-- A sum of coerced reals is the coerced sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logits: at every position the input is projected to one number, which the gate weights distribute over the experts. -/
def logit (X : Fin 128 → Fin 2048 → Fin 64 → ℝ) (W : Fin 64 → ℝ) (B : ℝ) (G : Fin 2048 → Fin 8 → ℝ) (C : Fin 8 → ℝ)
    (b : Fin 128) (e : Fin 8) : ℝ :=
  ∑ s : Fin 2048, (∑ n : Fin 64, X b s n * W n + B) * G s e + C e

/-- Position `s` of half `j` of the sequence axis. -/
def posOf (j : Fin 2) (s : Fin 1024) : Fin 2048 := ⟨1024 * j.val + s.val, by omega⟩

/-- A sum over the sequence axis is the sum over its first half and the sum over its second. -/
theorem sum_halves (f : Fin 2048 → ℝ) : ∑ s, f s = ∑ s, f (posOf 0 s) + ∑ s, f (posOf 1 s) := by
  have h := Fin.sum_univ_add (a := 1024) (b := 1024) f
  refine h.trans (congrArg₂ (· + ·) (Finset.sum_congr rfl fun s _ => congrArg f (Fin.ext ?_)) (Finset.sum_congr rfl fun s _ => congrArg f (Fin.ext ?_)))
  · show s.val = 1024 * 0 + s.val
    omega
  · show 1024 + s.val = 1024 * 1 + s.val
    omega

/-- The block-diagonal weights pick the row's own projection. -/
theorem sum_diagonal (r : Fin 16) (W : Fin 64 → ℝ) (Y : Fin 16 → Fin 64 → ℝ) :
    ∑ q : Fin 16, ∑ n : Fin 64, ((if r = q then 1 else 0) * W n) * Y q n = ∑ n : Fin 64, Y r n * W n := by
  rw [Finset.sum_eq_single r]
  · simp [mul_comm]
  · intro q _ hq
    simp [Ne.symm hq]
  · simp

/-- Projecting without the start bias half by half, and adding the bias's share of every logit to the gate bias, gives
    the logits. -/
theorem logit_eq (X : Fin 128 → Fin 2048 → Fin 64 → ℝ) (W : Fin 64 → ℝ) (B : ℝ) (G : Fin 2048 → Fin 8 → ℝ) (C : Fin 8 → ℝ)
    (b : Fin 128) (e : Fin 8) :
    (∑ s, (∑ n, X b (posOf 0 s) n * W n) * G (posOf 0 s) e + ∑ s, (∑ n, X b (posOf 1 s) n * W n) * G (posOf 1 s) e) + (C e + B * ∑ s, G s e)
      = logit X W B G C b e := by
  rw [← sum_halves fun s => (∑ n, X b s n * W n) * G s e]
  unfold logit
  simp only [add_mul, Finset.sum_add_distrib, Finset.mul_sum]
  ring

end Cert.Routing

end
-- ==== Proof.KernelValue.lean ====
/- What the kernel returns, from arguments that are real numbers: each row's gates are the gates of its logits, and the
   load array counts the positive ones. -/
module

public import proofs.«01_k».proof.Proof.Arrays
public import proofs.«01_k».proof.Proof.Gates
public import proofs.«01_k».proof.Proof.Logit

@[expose] public section

noncomputable section

namespace Cert.KernelIdeal.Result

open Idealize.ShloMosaic hiding ix1 ix2 ix3
open Idealize.ShloMosaic.TcCoe Idealize.ShloMosaic.ValueIdx Cert.KernelIdeal Cert.KernelIdeal.Gen
open Cert.KernelIdeal.Block Cert.KernelIdeal.Host Cert.KernelIdeal.Arrays Cert.KernelIdeal.Sweep Cert.Routing Idealize.SL.Sem

variable (m : (ℓ : Loc nD τ sig) → Buf (Elt Ideal) ℓ) (c : Dev nD)
variable (X : Fin 128 → Fin 2048 → Fin 64 → ℝ) (W : Fin 64 → ℝ) (B : ℝ) (G : Fin 2048 → Fin 8 → ℝ) (C : Fin 8 → ℝ)

/-- The five arguments hold the reals `X`, `W`, `B`, `G`, `C`. -/
structure Holds : Prop where
  x : ∀ b s n, argX m c (ix3 b s n) = (X b s n : EReal)
  w : ∀ n, argW m c (ix2 n (0 : Fin 1)) = (W n : EReal)
  b : argB m c (ix1 (0 : Fin 1)) = (B : EReal)
  g : ∀ s e, argG m c (ix2 s e) = (G s e : EReal)
  c : ∀ e, argC m c (ix1 e) = (C e : EReal)

variable {m c X W B G C}

/-- The partial logits of half `j`. -/
theorem part_real (h : Holds m c X W B G C) (i : Fin 8) (j : Fin 2) (r : Fin 16) (e : Fin 8) :
    part m c i j (ix2 r e)
      = ((∑ s : Fin 1024, (∑ n : Fin 64, X (row i r) (posOf j s) n * W n) * G (posOf j s) e : ℝ) : EReal) := by
  refine (pay1_apply _ _ _ r e).trans ((Finset.sum_congr rfl fun s _ => ?_).trans (coe_sum _ _))
  rw [EReal.coe_mul, iblk2, h.g]
  refine congrArg₂ (· * ·) ?_ rfl
  rw [← sum_diagonal r W fun q n => X (row i q) (posOf j s) n, ← coe_sum]
  refine Finset.sum_congr rfl fun q _ => ?_
  rw [← coe_sum]
  refine Finset.sum_congr rfl fun n _ => ?_
  rw [iblk1, iblk0, h.x, h.w, EReal.coe_mul, EReal.coe_mul]
  refine congrArg₂ (· * ·) (congrArg₂ (· * ·) ?_ rfl) rfl
  split <;> simp

/-- The folded gate bias. -/
theorem bias_real (h : Holds m c X W B G C) (i : Fin 8) (j : Fin 2) (e : Fin 8) :
    (iblk m c 3 (pt i j) : FVec Ideal S8 .f32) (ix1 e) = ((C e + B * ∑ s, G s e : ℝ) : EReal) := by
  rw [iblk3, h.c, h.b, Finset.sum_congr rfl fun s _ => h.g s e, coe_sum, EReal.coe_add, EReal.coe_mul]

/-- A row's gates. -/
theorem block_real (h : Holds m c X W B G C) (i : Fin 8) (r : Fin 16) (p q : Fin 8)
    (hp : IsFirst (logit X W B G C (row i r)) p) (hq : IsSecond (logit X W B G C (row i r)) p q) (e : Fin 8) :
    blockGates m c i (ix2 r e) = (gate (logit X W B G C (row i r)) p q e : EReal) := by
  refine Gates.gates_row _ _ r (logit X W B G C (row i r)) (fun e => ?_) p q hp hq e
  rw [addf_apply, part_real h, part_real h, bias_real h, ← logit_eq]
  rfl

/-- The first result: every row's gates. -/
theorem gates_real (h : Holds m c X W B G C) (b : Fin 128) (p q : Fin 8)
    (hp : IsFirst (logit X W B G C b) p) (hq : IsSecond (logit X W B G C b) p q) (e : Fin 8) :
    gates m c (ix2 b e) = (gate (logit X W B G C b) p q e : EReal) := by
  have hb : b = row ⟨b.val / 16, by omega⟩ ⟨b.val % 16, by omega⟩ := Fin.ext (show b.val = 16 * (b.val / 16) + b.val % 16 by omega)
  rw [hb] at hp hq ⊢
  rw [gates_apply]
  exact block_real h _ _ p q hp hq e

/-- The second result counts, over the 128 rows, the positive elements of the first. -/
theorem load_count (e : Fin 8) : load m c (ix1 e)
    = BitVec.ofNat 32 (Finset.univ.filter fun b : Fin 128 => (0 : EReal) < gates m c (ix2 b e)).card := by
  rw [load_apply]
  refine congrArg (BitVec.ofNat 32) ?_
  simp only [positives, Finset.card_filter]
  rw [← Finset.sum_product', ← Finset.univ_product_univ.symm]
  refine Finset.sum_bij' (fun x _ => row x.1 x.2) (fun b _ => ((⟨b.val / 16, by omega⟩ : Fin 8), (⟨b.val % 16, by omega⟩ : Fin 16)))
    (fun _ _ => Finset.mem_univ _) (fun _ _ => Finset.mem_univ _) ?_ ?_ ?_
  · rintro ⟨i, r⟩ _
    exact Prod.ext (Fin.ext (show (16 * i.val + r.val) / 16 = i.val by omega)) (Fin.ext (show (16 * i.val + r.val) % 16 = r.val by omega))
  · intro b _
    exact Fin.ext (show 16 * (b.val / 16) + b.val % 16 = b.val by omega)
  · rintro ⟨i, r⟩ _
    rw [gates_apply]

end Cert.KernelIdeal.Result

end
-- ==== Proof.RefLogits.lean ====
/- The reference's logits, from arguments that are real numbers: the two contractions and their biases, with every
   non-finite value replaced in between, which changes no real. -/
module

public import proofs.«01_k».proof.Proof.Gen.ReferenceIdeal.Read
public import proofs.«01_k».proof.Proof.Logit
public import Idealize.ShloMosaic.Lib.WordCmp

@[expose] public section

noncomputable section

namespace Cert.ReferenceIdeal.Logits

open Idealize.ShloMosaic
open Idealize.ShloMosaic.ValueIdx Cert.ReferenceIdeal Cert.ReferenceIdeal.Gen Cert.ReferenceIdeal.Read Cert.Routing

/-! ## Replacing what is not a number, or infinite, leaves a real alone -/

theorem keep_number (r : ℝ) (z : EReal) : Scalar.select (Ideal.cmp .une (r : EReal) r) z (r : EReal) = r := by
  simp [Ideal.cmp, Scalar.select]

theorem keep_below_top (r : ℝ) (z : EReal) :
    Scalar.select (Ideal.cmp .oeq (r : EReal) (Ideal.ofBits .f32 0x7F800000#32)) z (r : EReal) = r := by
  rw [show Ideal.ofBits .f32 0x7F800000#32 = ⊤ by simp [Ideal.ofBits, Ideal.ieee]]
  simp [Ideal.cmp, Scalar.select]

theorem keep_above_bot (r : ℝ) (z : EReal) :
    Scalar.select (Ideal.cmp .oeq (r : EReal) (Ideal.ofBits .f32 0xFF800000#32)) z (r : EReal) = r := by
  rw [show Ideal.ofBits .f32 0xFF800000#32 = ⊥ by simp [Ideal.ofBits, Ideal.ieee]]
  simp [Ideal.cmp, Scalar.select]

variable (x0 : FVec Ideal S128x2048x64 .f32) (x1 : FVec Ideal S64x1 .f32) (x2 : FVec Ideal S1 .f32) (x3 : FVec Ideal S2048x8 .f32)
  (x4 : FVec Ideal S8 .f32)
variable (X : Fin 128 → Fin 2048 → Fin 64 → ℝ) (W : Fin 64 → ℝ) (B : ℝ) (G : Fin 2048 → Fin 8 → ℝ) (C : Fin 8 → ℝ)

/-- The five arrays hold the reals `X`, `W`, `B`, `G`, `C`. -/
structure Holds : Prop where
  x : ∀ b s n, x0 (ix3 b s n) = (X b s n : EReal)
  w : ∀ n, x1 (ix2 n (0 : Fin 1)) = (W n : EReal)
  b : x2 (ix1 (0 : Fin 1)) = (B : EReal)
  g : ∀ s e, x3 (ix2 s e) = (G s e : EReal)
  c : ∀ e, x4 (ix1 e) = (C e : EReal)

variable {x0 x1 x2 x3 x4 X W B G C}

/-- The projection of position `s` of row `b`. -/
theorem start_real (h : Holds x0 x1 x2 x3 x4 X W B G C) (b : Fin 128) (s : Fin 2048) :
    val_main_v4 (F := Ideal) x0 x1 x2 (ix2 b s) = ((∑ n : Fin 64, X b s n * W n + B : ℝ) : EReal) := by
  have hi : idx_main_v4 (ix2 b s) = ix3 b s (0 : Fin 1) := by
    funext a
    match a with
    | ⟨0, _⟩ => exact Fin.ext (show (b.val * 2048 + s.val) / 2048 = b.val by omega)
    | ⟨1, _⟩ => exact Fin.ext (show (b.val * 2048 + s.val) / 1 % 2048 = s.val by omega)
    | ⟨2, _⟩ => rfl
  rw [val_main_v4_apply, hi, val_main_v3_apply, val_main_v0_apply, val_main_v2_apply, val_main_v1_apply, EReal.coe_add, ← coe_sum]
  refine congrArg₂ (· + ·) (Finset.sum_congr rfl fun n _ => ?_) ?_
  · rw [EReal.coe_mul, ← h.x, ← h.w]
    refine congrArg₂ (· * ·) (congrArg x0 (funext fun a => ?_)) (congrArg x1 (funext fun a => ?_))
    · match a with
      | ⟨0, _⟩ => rfl
      | ⟨1, _⟩ => rfl
      | ⟨2, _⟩ => rfl
    · match a with
      | ⟨0, _⟩ => rfl
      | ⟨1, _⟩ => rfl
  · rw [← h.b]
    exact congrArg x2 (ValueIdx.eq_ix1 _)

/-- The first replacement, at an element that is a real. -/
theorem kept_start (i : S128x2048.Idx) (r : ℝ) (hr : val_main_v4 (F := Ideal) x0 x1 x2 i = (r : EReal)) :
    val_main_v5 (F := Ideal) x0 x1 x2 i = (r : EReal) := by
  have h2 : val_main_call0_v2 (F := Ideal) x0 x1 x2 i = (r : EReal) := by
    rw [val_main_call0_v2_apply, val_main_call0_v0_apply, hr]
    exact keep_number r _
  have h6 : val_main_call0_v6 (F := Ideal) x0 x1 x2 i = (r : EReal) := by
    rw [val_main_call0_v6_apply, val_main_call0_v4_apply, h2, val_main_call0_v3_apply, val_main_call0_cst_apply]
    exact keep_below_top r _
  rw [val_main_v5_apply, val_main_call0_v8_apply, h6, val_main_call0_v7_apply, val_main_call0_cst_0_apply]
  exact keep_above_bot r _

/-- The second replacement, at an element that is a real. -/
theorem kept_logit (i : S128x8.Idx) (r : ℝ) (hr : val_main_v9 (F := Ideal) x0 x1 x2 x3 x4 i = (r : EReal)) :
    val_main_v10 (F := Ideal) x0 x1 x2 x3 x4 i = (r : EReal) := by
  have h2 : val_main_call1_v2 (F := Ideal) x0 x1 x2 x3 x4 i = (r : EReal) := by
    rw [val_main_call1_v2_apply, val_main_call1_v0_apply, hr]
    exact keep_number r _
  have h6 : val_main_call1_v6 (F := Ideal) x0 x1 x2 x3 x4 i = (r : EReal) := by
    rw [val_main_call1_v6_apply, val_main_call1_v4_apply, h2, val_main_call1_v3_apply, val_main_call1_cst_apply]
    exact keep_below_top r _
  rw [val_main_v10_apply, val_main_call1_v8_apply, h6, val_main_call1_v7_apply, val_main_call1_cst_0_apply]
  exact keep_above_bot r _

/-- The third replacement, at an element that is a real. -/
theorem kept_gate (i : S128x8.Idx) (r : ℝ) (hr : val_main_v41 (F := Ideal) x0 x1 x2 x3 x4 i = (r : EReal)) :
    val_main_v42 (F := Ideal) x0 x1 x2 x3 x4 i = (r : EReal) := by
  have h2 : val_main_call2_v2 (F := Ideal) x0 x1 x2 x3 x4 i = (r : EReal) := by
    rw [val_main_call2_v2_apply, val_main_call2_v0_apply, hr]
    exact keep_number r _
  have h6 : val_main_call2_v6 (F := Ideal) x0 x1 x2 x3 x4 i = (r : EReal) := by
    rw [val_main_call2_v6_apply, val_main_call2_v4_apply, h2, val_main_call2_v3_apply, val_main_call2_cst_apply]
    exact keep_below_top r _
  rw [val_main_v42_apply, val_main_call2_v8_apply, h6, val_main_call2_v7_apply, val_main_call2_cst_0_apply]
  exact keep_above_bot r _

/-- The reference's logits are the logits. -/
theorem logit_real (h : Holds x0 x1 x2 x3 x4 X W B G C) (b : Fin 128) (e : Fin 8) :
    val_main_v10 (F := Ideal) x0 x1 x2 x3 x4 (ix2 b e) = (logit X W B G C b e : EReal) := by
  refine kept_logit _ _ ?_
  rw [val_main_v9_apply, val_main_v6_apply, val_main_v8_apply, val_main_v7_apply]
  unfold logit
  rw [EReal.coe_add, ← coe_sum]
  refine congrArg₂ (· + ·) (Finset.sum_congr rfl fun s _ => ?_) ?_
  · rw [EReal.coe_mul, ← h.g]
    have hl : lidx_main_v6 (ix2 b e) s = ix2 b s := by
      funext a
      match a with
      | ⟨0, _⟩ => rfl
      | ⟨1, _⟩ => rfl
    rw [hl, kept_start _ _ (start_real h b s)]
    refine congrArg₂ (· * ·) rfl (congrArg x3 (funext fun a => ?_))
    match a with
    | ⟨0, _⟩ => rfl
    | ⟨1, _⟩ => rfl
  · rw [← h.c]
    refine congrArg x4 (funext fun a => ?_)
    match a with
    | ⟨0, _⟩ => rfl

end Cert.ReferenceIdeal.Logits

end
-- ==== Proof.RefTop.lean ====
/- The reference's top-k: of a row of reals, slots 0 and 1 hold the two largest entries and their positions; and the
   softmax over these two. -/
module

public import proofs.«01_k».proof.Proof.RefLogits
public import proofs.«01_k».proof.Proof.Spec
public import Idealize.ShloMosaic.Lib.IdealHost

@[expose] public section

noncomputable section

namespace Cert.ReferenceIdeal.Top

open Idealize.ShloMosaic
open Idealize.ShloMosaic.ValueIdx Cert.ReferenceIdeal Cert.ReferenceIdeal.Gen Cert.ReferenceIdeal.Read Cert.ReferenceIdeal.Logits Cert.Routing

/-- The position along a row. -/
theorem along_eq (b : Fin 128) (k a : Fin 8) : (ix2 b k : S128x8.Idx).along (1 : Fin S128x8.rank) a = ix2 b a := by
  funext d
  match d with
  | ⟨0, _⟩ => exact Function.update_of_ne (fun e => absurd (congrArg Fin.val e) (by decide : (0 : ℕ) ≠ 1)) _ _
  | ⟨1, _⟩ => exact Function.update_self _ _ _

/-- In a row of reals the descending stable sort puts the largest at slot 0 and the second largest at slot 1. -/
theorem slot_position (x : FVec Ideal S128x8 .f32) (b : Fin 128) (l : Fin 8 → ℝ) (hx : ∀ e, x (ix2 b e) = (l e : EReal))
    (p q : Fin 8) (hp : IsFirst l p) (hq : IsSecond l p q) (k : Fin 2) :
    sortedFrom (fun a a' : Fin 8 => FloatOps.cmpfTotal (F := Ideal) (φ := .f32) .gt
        (x ((ix2 b (k.castLE (by decide : 2 ≤ 8)) : S128x8.Idx).along (1 : Fin S128x8.rank) a))
        (x ((ix2 b (k.castLE (by decide : 2 ≤ 8)) : S128x8.Idx).along (1 : Fin S128x8.rank) a')) == 1#1) (k.castLE (by decide))
      = (![p, q] : Fin 2 → Fin 8) k := by
  rw [← sorted_two l p q hp hq k]
  refine congrArg (fun f => sortedFrom f _) (funext fun a => funext fun a' => ?_)
  rw [along_eq, along_eq, hx, hx]
  show (BitVec.ofBool (decide ((l a' : EReal) < (l a : EReal))) == 1#1) = decide (l a' < l a)
  simp only [EReal.coe_lt_coe_iff]
  by_cases h : l a' < l a <;> simp [h]

/-- A sort of two operands, at an index: each is read at the position that the sort puts there. -/
theorem sort2_apply {s : Shape} {α β : Type} (d : Nat) (hd : d < s.rank) (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k))
        (x (j.along ⟨d, hd⟩ k'), y (j.along ⟨d, hd⟩ k')) == 1#1) (j ⟨d, hd⟩)))
      ∧ (Host.sort2 s d cmp x y).2 j = y (j.along ⟨d, hd⟩ (sortedFrom (fun k k' => cmp (x (j.along ⟨d, hd⟩ k), y (j.along ⟨d, hd⟩ k))
        (x (j.along ⟨d, hd⟩ k'), y (j.along ⟨d, hd⟩ k')) == 1#1) (j ⟨d, hd⟩))) := by
  unfold Host.sort2
  rw [dif_pos hd]
  exact ⟨rfl, rfl⟩

/-- Slots 0 and 1 of the values and of the indices. -/
theorem topk_slot (x : FVec Ideal S128x8 .f32) (h : S128x8.Slices (fun _ => 0) S128x3) (b : Fin 128) (l : Fin 8 → ℝ)
    (hx : ∀ e, x (ix2 b e) = (l e : EReal)) (p q : Fin 8) (hp : IsFirst l p) (hq : IsSecond l p q) (k : Fin 2) :
    (Host.topK S128x3 1 (FloatOps.cmpfTotal .gt) x h).1 (ix2 b (k.castLE (by decide : 2 ≤ 3))) = (l ((![p, q] : Fin 2 → Fin 8) k) : EReal)
      ∧ (Host.topK S128x3 1 (FloatOps.cmpfTotal .gt) x h).2 (ix2 b (k.castLE (by decide : 2 ≤ 3)))
        = BitVec.ofNat 32 ((![p, q] : Fin 2 → Fin 8) k).val := by
  have hs := slot_position x b l hx p q hp hq k
  have hk : ∀ a : Fin S128x3.rank, ((ix2 b (k.castLE (by decide : 2 ≤ 8)) : S128x8.Idx) a).val = 0 + ((ix2 b (k.castLE (by decide : 2 ≤ 3)) : S128x3.Idx) a).val := by
    intro a
    match a with
    | ⟨0, _⟩ => exact (Nat.zero_add _).symm
    | ⟨1, _⟩ => exact (Nat.zero_add _).symm
  unfold Host.topK
  dsimp only
  constructor
  · refine (extractStridedSlice_apply _ _ h _ (ix2 b (k.castLE (by decide : 2 ≤ 8)) : S128x8.Idx) hk).trans ((sort2_apply 1 (by decide) _ _ _ _).1.trans ?_)
    refine (congrArg (fun w => x ((ix2 b (k.castLE (by decide : 2 ≤ 8)) : S128x8.Idx).along (1 : Fin S128x8.rank) w)) hs).trans ?_
    rw [along_eq, hx]
  · refine (extractStridedSlice_apply _ _ h _ (ix2 b (k.castLE (by decide : 2 ≤ 8)) : S128x8.Idx) hk).trans ((sort2_apply 1 (by decide) _ _ _ _).2.trans ?_)
    refine (congrArg (fun w => iotaInDim S128x8 32 (1 : Fin S128x8.rank) ((ix2 b (k.castLE (by decide : 2 ≤ 8)) : S128x8.Idx).along (1 : Fin S128x8.rank) w)) hs).trans ?_
    rw [along_eq]
    rfl

variable {x0 : FVec Ideal S128x2048x64 .f32} {x1 : FVec Ideal S64x1 .f32} {x2 : FVec Ideal S1 .f32} {x3 : FVec Ideal S2048x8 .f32}
  {x4 : FVec Ideal S8 .f32}
variable {X : Fin 128 → Fin 2048 → Fin 64 → ℝ} {W : Fin 64 → ℝ} {B : ℝ} {G : Fin 2048 → Fin 8 → ℝ} {C : Fin 8 → ℝ}

/-- The two values that the reference keeps of row `b`. -/
theorem kept_value (h : Holds x0 x1 x2 x3 x4 X W B G C) (b : Fin 128) (p q : Fin 8)
    (hp : IsFirst (logit X W B G C b) p) (hq : IsSecond (logit X W B G C b) p q) (k : Fin 2) :
    val_main_v11 (F := Ideal) x0 x1 x2 x3 x4 (ix2 b k) = (logit X W B G C b ((![p, q] : Fin 2 → Fin 8) k) : EReal) := by
  rw [val_main_v11_apply, ← (topk_slot _ sliceFits_S128x8_S128x3 b _ (fun e => logit_real h b e) p q hp hq k).1]
  unfold val_main_values
  refine congrArg _ (funext fun a => ?_)
  match a with
  | ⟨0, _⟩ => rfl
  | ⟨1, _⟩ => rfl

/-- And their positions. -/
theorem kept_index (h : Holds x0 x1 x2 x3 x4 X W B G C) (b : Fin 128) (p q : Fin 8)
    (hp : IsFirst (logit X W B G C b) p) (hq : IsSecond (logit X W B G C b) p q) (k : Fin 2) :
    val_main_v12 (F := Ideal) x0 x1 x2 x3 x4 (ix2 b k) = BitVec.ofNat 32 ((![p, q] : Fin 2 → Fin 8) k).val := by
  rw [val_main_v12_apply, ← (topk_slot _ sliceFits_S128x8_S128x3 b _ (fun e => logit_real h b e) p q hp hq k).2]
  unfold val_main_indices
  refine congrArg _ (funext fun a => ?_)
  match a with
  | ⟨0, _⟩ => rfl
  | ⟨1, _⟩ => rfl

/-! ## The softmax over the two -/

theorem pair_lift_eq (h : S128x2.Reduces [1] S128) (b : Fin 128) (k : Fin 2) : h.lift (ix1 b) k = ix2 b k := by
  funext a
  match a with
  | ⟨0, _⟩ => rfl
  | ⟨1, _⟩ => rfl

/-- The maximum over two, from an initial value. -/
theorem fold_two (f : Fin 2 → EReal) (z : EReal) : (Finset.univ : Finset (Fin 2)).fold max z f = max (f 0) (max (f 1) z) := by
  rw [show (Finset.univ : Finset (Fin 2)) = {0, 1} by decide, Finset.fold_insert (by decide), Finset.fold_singleton]

/-- The host's maximum along a row of two. -/
theorem pair_max (v : FVec Ideal S128x2 .f32) (b : Fin 128) :
    Host.reduce FloatOps.maximumf v (val_main_cst_5 (F := Ideal)) reducesTo_S128x2_S128_d1 h_S_ (ix1 b)
      = max (v (ix2 b 0)) (max (v (ix2 b 1)) (Ideal.ofBits .f32 0xFF800000#32)) := by
  rw [Host.reduce_eq_fold_single FloatOps.maximumf v _ reducesTo_S128x2_S128_d1 (by decide : S128x2.Reduces [1] S128) h_S_]
  refine Eq.trans ?_ (fold_two (fun k => v (ix2 b k)) (Ideal.ofBits .f32 0xFF800000#32))
  exact congrArg (fun f => Finset.fold max (Ideal.ofBits .f32 0xFF800000#32) f (Finset.univ : Finset (Fin 2)))
    (funext fun k => congrArg v (pair_lift_eq (by decide : S128x2.Reduces [1] S128) b k))

/-- The maximum of the two is the largest logit. -/
theorem max_real (h : Holds x0 x1 x2 x3 x4 X W B G C) (b : Fin 128) (p q : Fin 8)
    (hp : IsFirst (logit X W B G C b) p) (hq : IsSecond (logit X W B G C b) p q) :
    val_main_v15 (F := Ideal) x0 x1 x2 x3 x4 (ix1 b) = (logit X W B G C b p : EReal) := by
  have hb : Ideal.ofBits .f32 0xFF800000#32 = (⊥ : EReal) := by simp [Ideal.ofBits, Ideal.ieee]
  have h13 : val_main_v13 (F := Ideal) x0 x1 x2 x3 x4 (ix1 b) = (logit X W B G C b p : EReal) := by
    unfold val_main_v13
    rw [pair_max, kept_value h b p q hp hq, kept_value h b p q hp hq]
    show max (logit X W B G C b p : EReal) (max (logit X W B G C b q : EReal) (Ideal.ofBits .f32 0xFF800000#32)) = _
    rw [hb, max_eq_left bot_le, max_eq_left (EReal.coe_le_coe_iff.2 (hp q).1)]
  rw [val_main_v15_apply, h13, val_main_v14_apply, val_main_cst_6_apply]
  show max (Ideal.ofBits .f32 0xFF800000#32) (logit X W B G C b p : EReal) = _
  rw [hb, max_eq_right bot_le]

/-- The exponentials. -/
theorem exp_real (h : Holds x0 x1 x2 x3 x4 X W B G C) (b : Fin 128) (p q : Fin 8)
    (hp : IsFirst (logit X W B G C b) p) (hq : IsSecond (logit X W B G C b) p q) (k : Fin 2) :
    val_main_v19 (F := Ideal) x0 x1 x2 x3 x4 (ix2 b k)
      = (Real.exp (logit X W B G C b ((![p, q] : Fin 2 → Fin 8) k) - logit X W B G C b p) : EReal) := by
  have h17 : val_main_v17 (F := Ideal) x0 x1 x2 x3 x4 (ix2 b k) = (logit X W B G C b p : EReal) := by
    rw [val_main_v17_apply, val_main_v16_apply, ← max_real h b p q hp hq]
    exact congrArg _ (ValueIdx.eq_ix1 _)
  rw [val_main_v19_apply, val_main_v18_apply, kept_value h b p q hp hq k, h17]
  show Ideal.exp ((logit X W B G C b ((![p, q] : Fin 2 → Fin 8) k) : EReal) - (logit X W B G C b p : EReal)) = _
  rw [← EReal.coe_sub]
  rfl

/-- The gates of the two. -/
theorem soft_real (h : Holds x0 x1 x2 x3 x4 X W B G C) (b : Fin 128) (p q : Fin 8)
    (hp : IsFirst (logit X W B G C b) p) (hq : IsSecond (logit X W B G C b) p q) (k : Fin 2) :
    val_main_v23 (F := Ideal) x0 x1 x2 x3 x4 (ix2 b k) = (gate (logit X W B G C b) p q ((![p, q] : Fin 2 → Fin 8) k) : EReal) := by
  have hpos := Real.exp_pos (logit X W B G C b q - logit X W B G C b p)
  have h22 : val_main_v22 (F := Ideal) x0 x1 x2 x3 x4 (ix2 b k)
      = ((1 + Real.exp (logit X W B G C b q - logit X W B G C b p) : ℝ) : EReal) := by
    rw [val_main_v22_apply, val_main_v21_apply, val_main_v20_apply, Fin.sum_univ_two]
    have e0 : ∀ k : Fin 2, idx_main_v20 (idx_main_v21 (idx_main_v22 (ix2 b k))) 0 = ix2 b (0 : Fin 2) := fun k => by
      funext a
      match a with
      | ⟨0, _⟩ => rfl
      | ⟨1, _⟩ => rfl
    have e1 : ∀ k : Fin 2, idx_main_v20 (idx_main_v21 (idx_main_v22 (ix2 b k))) 1 = ix2 b (1 : Fin 2) := fun k => by
      funext a
      match a with
      | ⟨0, _⟩ => rfl
      | ⟨1, _⟩ => rfl
    rw [e0, e1, exp_real h b p q hp hq, exp_real h b p q hp hq, val_main_cst_7_apply]
    show Ideal.ofBits .f32 0x00000000#32 + ((Real.exp (logit X W B G C b p - logit X W B G C b p) : ℝ) + (Real.exp (logit X W B G C b q - logit X W B G C b p) : ℝ) : EReal) = _
    rw [Ideal.ofBits_zero_f32, zero_add, sub_self, Real.exp_zero, EReal.coe_add]
  rw [val_main_v23_apply, h22, exp_real h b p q hp hq k]
  show Ideal.div (Real.exp _ : EReal) ((1 + Real.exp (logit X W B G C b q - logit X W B G C b p) : ℝ) : EReal) = _
  have hd : ∀ x y : ℝ, y ≠ 0 → Ideal.div (x : EReal) (y : EReal) = ((x / y : ℝ) : EReal) := fun x y hy => by
    unfold Ideal.div
    rw [if_neg (by exact_mod_cast hy), ← EReal.coe_inv, ← EReal.coe_mul, div_eq_mul_inv]
  rw [hd _ _ (by positivity)]
  refine congrArg _ ?_
  unfold gate
  match k with
  | 0 => simp
  | 1 => simp [hq.1]

end Cert.ReferenceIdeal.Top

end
-- ==== Proof.RefValue.lean ====
/- What the reference returns, from arguments that are real numbers: the two gates of each row scattered to their
   experts, and the count of positive gates of each expert. -/
module

public import proofs.«01_k».proof.Proof.RefTop
public import Idealize.ShloMosaic.Lib.ScatterToDense.RefScatter
public import Idealize.ShloMosaic.Lib.StableHlo.Predicate

@[expose] public section

noncomputable section

namespace Cert.ReferenceIdeal.Result

open Idealize.ShloMosaic
open Idealize.ShloMosaic.ValueIdx Cert.ReferenceIdeal Cert.ReferenceIdeal.Gen Cert.ReferenceIdeal.Read Cert.ReferenceIdeal.Logits
open Cert.ReferenceIdeal.Top Cert.Routing

variable {x0 : FVec Ideal S128x2048x64 .f32} {x1 : FVec Ideal S64x1 .f32} {x2 : FVec Ideal S1 .f32} {x3 : FVec Ideal S2048x8 .f32}
  {x4 : FVec Ideal S8 .f32}
variable {X : Fin 128 → Fin 2048 → Fin 64 → ℝ} {W : Fin 64 → ℝ} {B : ℝ} {G : Fin 2048 → Fin 8 → ℝ} {C : Fin 8 → ℝ}

/-- A small index word is not negative, so wrapping negative ones leaves it. -/
theorem wrap_small (n : ℕ) (hn : n < 2 ^ 31) (y : BitVec 32) :
    Scalar.select (IntOp.cmpi .slt (BitVec.ofNat 32 n) 0#32) y (BitVec.ofNat 32 n) = BitVec.ofNat 32 n := by
  rw [WordCmp.cmpi_slt_zero, WordCmp.select_decide, if_neg]
  rw [BitVec.toNat_ofNat, Nat.mod_eq_of_lt (by omega)]
  omega

/-- The row word of every update is the row. -/
theorem row_word (b : Fin 128) (k : Fin 2) :
    val_main_v40 (F := Ideal) x0 x1 x2 x3 x4 (ix3 b k (0 : Fin 2)) = BitVec.ofNat 32 b.val := by
  unfold val_main_v40
  refine (concatenate_pair_apply_left (2 : Fin S128x2x2.rank) _ _ concatenates_S128x2x1_S128x2x1_S128x2x2_d2
    (ix3 b k (0 : Fin 2)) rfl (ix3 b k (0 : Fin 1)) fun a => ?_).trans ?_
  · match a with
    | ⟨0, _⟩ => rfl
    | ⟨1, _⟩ => rfl
    | ⟨2, _⟩ => rfl
  · rw [val_main_v38_apply, val_main_v37_apply, val_main_v31_apply, val_main_v28_apply, val_main_v26_apply, val_main_v25_apply,
      val_main_v27_apply, val_main_c_apply]
    exact wrap_small b.val (by omega) _

/-- The column word of update `k` is the position of the row's largest logit, or of its second largest. -/
theorem column_word (h : Holds x0 x1 x2 x3 x4 X W B G C) (b : Fin 128) (p q : Fin 8)
    (hp : IsFirst (logit X W B G C b) p) (hq : IsSecond (logit X W B G C b) p q) (k : Fin 2) :
    val_main_v40 (F := Ideal) x0 x1 x2 x3 x4 (ix3 b k (1 : Fin 2)) = BitVec.ofNat 32 ((![p, q] : Fin 2 → Fin 8) k).val := by
  unfold val_main_v40
  refine (concatenate_pair_apply_right (2 : Fin S128x2x2.rank) _ _ concatenates_S128x2x1_S128x2x1_S128x2x2_d2
    (ix3 b k (1 : Fin 2)) rfl rfl (ix3 b k (0 : Fin 1)) (fun a ha => ?_) rfl).trans ?_
  · match a, ha with
    | ⟨0, _⟩, _ => rfl
    | ⟨1, _⟩, _ => rfl
    | ⟨2, _⟩, ha => exact absurd rfl ha
  · have hi : idx_main_v39 (ix3 b k (0 : Fin 1)) = ix2 b k := by
      funext a
      match a with
      | ⟨0, _⟩ => rfl
      | ⟨1, _⟩ => rfl
    rw [val_main_v39_apply, hi, val_main_v36_apply, val_main_v33_apply, kept_index h b p q hp hq k, val_main_v32_apply, val_main_c_10_apply]
    exact wrap_small _ (by have := ((![p, q] : Fin 2 → Fin 8) k).isLt; omega) _

/-- Two updates per row, each landing in its own row at a column given as a word: what the row holds afterwards. -/
theorem scatter_two (fill : FVec Ideal S128x8 .f32) (idx : IVec S128x2x2 32) (upd : FVec Ideal S128x2 .f32)
    (hrow : ∀ (i : Fin 128) (k : Fin 2), idx (ix3 i k (0 : Fin 2)) = BitVec.ofNat 32 i.val) (b : Fin 128) (e p q : Fin 8)
    (h0 : idx (ix3 b (0 : Fin 2) (1 : Fin 2)) = BitVec.ofNat 32 p.val) (h1 : idx (ix3 b (1 : Fin 2) (1 : Fin 2)) = BitVec.ofNat 32 q.val) :
    Host.scatter scatter_S128x8_S128x2x2_S128x2_n_01_01_2 (fun _ b => b) fill idx upd (ix2 b e)
      = if e = q then upd (ix2 b (1 : Fin 2)) else if e = p then upd (ix2 b (0 : Fin 2)) else fill (ix2 b e) := by
  have hs := ScatterToDense.scatter_eq_GS scatter_S128x8_S128x2x2_S128x2_n_01_01_2 rfl rfl rfl (by decide) (by decide) fill idx upd
    (fun i k => idx (ix3 i (if k = 0 then (0 : Fin 2) else (1 : Fin 2)) (1 : Fin 2)))
    (fun i k => upd (ix2 i (if k = 0 then (0 : Fin 2) else (1 : Fin 2))))
    hrow (fun i k => by fin_cases k <;> rfl) (fun i k => by fin_cases k <;> rfl) b e
  refine hs.trans ?_
  have hw : ∀ a : Fin 8, (BitVec.ofNat 32 a.val).toNat = a.val := fun a => by rw [BitVec.toNat_ofNat, Nat.mod_eq_of_lt (by omega)]
  rw [ScatterToDense.GS_succ, ScatterToDense.GS_succ, ScatterToDense.GS_zero]
  simp only [one_ne_zero, if_true, if_false, h0, h1, hw, Fin.val_inj]

/-- The scattered gates of a row. -/
theorem scattered (h : Holds x0 x1 x2 x3 x4 X W B G C) (b : Fin 128) (p q : Fin 8)
    (hp : IsFirst (logit X W B G C b) p) (hq : IsSecond (logit X W B G C b) p q) (e : Fin 8) :
    val_main_v41 (F := Ideal) x0 x1 x2 x3 x4 (ix2 b e) = (gate (logit X W B G C b) p q e : EReal) := by
  unfold val_main_v41
  refine (scatter_two _ _ _ row_word b e p q (column_word h b p q hp hq 0) (column_word h b p q hp hq 1)).trans ?_
  rw [val_main_v24_apply, val_main_cst_8_apply]
  by_cases hq' : e = q
  · rw [if_pos hq', hq']
    exact soft_real h b p q hp hq 1
  · rw [if_neg hq']
    by_cases hp' : e = p
    · rw [if_pos hp', hp']
      exact soft_real h b p q hp hq 0
    · rw [if_neg hp']
      unfold gate
      rw [if_neg hp', if_neg hq']
      exact Ideal.ofBits_zero_f32

/-- The first result: every row's gates, which replacing and clipping leave alone. -/
theorem gates_real (h : Holds x0 x1 x2 x3 x4 X W B G C) (b : Fin 128) (p q : Fin 8)
    (hp : IsFirst (logit X W B G C b) p) (hq : IsSecond (logit X W B G C b) p q) (e : Fin 8) :
    val_main_v43 (F := Ideal) x0 x1 x2 x3 x4 (ix2 b e) = (gate (logit X W B G C b) p q e : EReal) := by
  rw [val_main_v43_apply, val_main_call3_v2_apply, kept_gate _ _ (scattered h b p q hp hq e), val_main_call3_v4_apply, val_main_call3_v3_apply,
    val_main_cst_16_apply, val_main_call3_v1_apply, val_main_call3_v0_apply, val_main_cst_15_apply]
  show min (Ideal.ofBits .f32 0x3F800000#32) (max (Ideal.ofBits .f32 0x00000000#32) (gate (logit X W B G C b) p q e : EReal)) = _
  rw [Ideal.ofBits_zero_f32, Ideal.ofBits_one_f32, max_eq_right (by exact_mod_cast gate_nonneg _ _ _ _),
    min_eq_right (by exact_mod_cast gate_le_one _ _ _ _)]

/-- Summing a mask of 128 rows down its columns counts, in each column, the rows where the mask is set. -/
theorem column_count (mask : IVec S128x8 1) (j : S8.Idx) (e : Fin 8) (hj : j 0 = e) :
    Host.reduce IntOp.addi (extui 32 mask natLt_1_32) (constantI S_ 32 0#32) reducesTo_S128x8_S8_d0 h_S_ j
      = BitVec.ofNat 32 (Finset.univ.filter fun b : Fin 128 => mask (ix2 b e) = 1#1).card := by
  have hc := StableHlo.Predicate.toNat_reduce_count_rows (n := 128) (m := 8) (by decide) mask natLt_1_32 reducesTo_S128x8_S8_d0 h_S_ j
  refine BitVec.eq_of_toNat_eq (hc.trans ?_)
  rw [BitVec.toNat_ofNat, Nat.mod_eq_of_lt (lt_of_le_of_lt (Finset.card_le_univ _) (by simp))]
  refine congrArg Finset.card (Finset.filter_congr fun b _ => ?_)
  have hi : (StableHlo.Predicate.ij b (j 0) : S128x8.Idx) = ix2 b e := by
    funext a
    match a with
    | ⟨0, _⟩ => rfl
    | ⟨1, _⟩ => exact hj
  exact Iff.of_eq (congrArg (fun i => mask i = 1#1) hi)

/-- The mask the count sums: it is set where the first result is positive. -/
theorem positive_iff (b : Fin 128) (e : Fin 8) :
    val_main_v45 (F := Ideal) x0 x1 x2 x3 x4 (ix2 b e) = 1#1 ↔ (0 : EReal) < val_main_v43 (F := Ideal) x0 x1 x2 x3 x4 (ix2 b e) := by
  rw [val_main_v45_apply, val_main_v44_apply, val_main_cst_17_apply]
  generalize val_main_v43 (F := Ideal) x0 x1 x2 x3 x4 (ix2 b e) = y
  show BitVec.ofBool (decide (Ideal.ofBits .f32 0x00000000#32 < y)) = 1#1 ↔ _
  rw [Ideal.ofBits_zero_f32]
  by_cases h : (0 : EReal) < y <;> simp [h]

/-- The second result counts, over the 128 rows, the positive elements of the first. -/
theorem load_count (e : Fin 8) : val_main_v47 (F := Ideal) x0 x1 x2 x3 x4 (ix1 e)
    = BitVec.ofNat 32 (Finset.univ.filter fun b : Fin 128 => (0 : EReal) < val_main_v43 (F := Ideal) x0 x1 x2 x3 x4 (ix2 b e)).card := by
  unfold val_main_v47 val_main_v46 val_main_c_18
  refine (column_count _ _ e rfl).trans ?_
  exact congrArg (fun s : Finset (Fin 128) => BitVec.ofNat 32 s.card) (Finset.filter_congr fun b _ => positive_iff b e)

end Cert.ReferenceIdeal.Result

end
-- ==== Proof.Agree.lean ====
/- The two programs' results are the same arrays, from arguments that pass the finiteness test. -/
module

public import proofs.«01_k».proof.Proof.Finite
public import proofs.«01_k».proof.Proof.KernelValue
public import proofs.«01_k».proof.Proof.RefValue

@[expose] public section

noncomputable section

namespace Cert.Agree

open Idealize.ShloMosaic hiding ix1 ix2 ix3
open Idealize.ShloMosaic.TcCoe Idealize.ShloMosaic.ValueIdx Cert.KernelIdeal
open Cert.KernelIdeal.Host Cert.KernelIdeal.Arrays Cert.Routing Idealize.SL.Sem

variable (m : (ℓ : Loc nD τ sig) → Buf (Elt Idealize.ShloMosaic.Ideal) ℓ) (c : Dev nD)

/-- The first result of the reference over the kernel's arguments. -/
abbrev refGates : FVec Idealize.ShloMosaic.Ideal S128x8 .f32 :=
  Cert.ReferenceIdeal.Read.val_main_v43 (F := Idealize.ShloMosaic.Ideal) (argX m c) (argW m c) (argB m c) (argG m c) (argC m c)

/-- The second result of the reference over the kernel's arguments. -/
abbrev refLoad : IVec S8 32 :=
  Cert.ReferenceIdeal.Read.val_main_v47 (F := Idealize.ShloMosaic.Ideal) (argX m c) (argW m c) (argB m c) (argG m c) (argC m c)

/-- The gates agree. -/
theorem gates_eq (h : Cert.Pre_finite.fn (F := Idealize.ShloMosaic.Ideal) (argX m c) (argW m c) (argB m c) (argG m c) (argC m c) = fun _ => 1#1) :
    refGates m c = gates m c := by
  obtain ⟨hx, hw, hb, hg, hc⟩ := Cert.Pre_finite.Read.reals _ _ _ _ _ h
  choose X hX using fun (b : Fin 128) (s : Fin 2048) (n : Fin 64) => hx (ix3 b s n)
  choose W hW using fun n : Fin 64 => hw (ix2 n (0 : Fin 1))
  obtain ⟨B, hB⟩ := hb (ix1 (0 : Fin 1))
  choose G hG using fun (s : Fin 2048) (e : Fin 8) => hg (ix2 s e)
  choose C hC using fun e : Fin 8 => hc (ix1 e)
  have hk : Cert.KernelIdeal.Result.Holds m c X W B G C := ⟨hX, hW, hB, hG, hC⟩
  have hr : Cert.ReferenceIdeal.Logits.Holds (argX m c) (argW m c) (argB m c) (argG m c) (argC m c) X W B G C := ⟨hX, hW, hB, hG, hC⟩
  funext i
  obtain ⟨p, hp⟩ := exists_isFirst (logit X W B G C (i 0))
  obtain ⟨q, hq⟩ := exists_isSecond (logit X W B G C (i 0)) p
  rw [ValueIdx.eq_ix2 i]
  exact (Cert.ReferenceIdeal.Result.gates_real hr (i 0) p q hp hq (i 1)).trans
    (Cert.KernelIdeal.Result.gates_real hk (i 0) p q hp hq (i 1)).symm

/-- The loads agree: both count the positive elements of the same gates. -/
theorem load_eq (h : Cert.Pre_finite.fn (F := Idealize.ShloMosaic.Ideal) (argX m c) (argW m c) (argB m c) (argG m c) (argC m c) = fun _ => 1#1) :
    refLoad m c = load m c := by
  funext i
  rw [ValueIdx.eq_ix1 i]
  refine (Cert.ReferenceIdeal.Result.load_count (i 0)).trans (Eq.trans ?_ (Cert.KernelIdeal.Result.load_count (i 0)).symm)
  refine congrArg (fun s : Finset (Fin 128) => BitVec.ofNat 32 s.card) (Finset.filter_congr fun b _ => ?_)
  exact Iff.of_eq (congrArg (fun y : EReal => (0 : EReal) < y) (congrFun (gates_eq m c h) (ix2 b (i 0))))

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Agree

@[expose] public section

noncomputable section

namespace Cert.Proof

open Idealize.ShloMosaic Idealize.SL.Sem Cert.Kernel

/-- The kernel's frame: it runs, leaves its arguments as they were and every counter at zero. -/
theorem frame_kernel : Cert.quiescent_Kernel (hKernel := Cert.Kernel.Gen.facts) :=
  fun m ρ _ => Cert.Kernel.Gen.frame m ρ

/-- The same of the kernel read over the extended reals. -/
theorem frame_ideal : Cert.quiescent_KernelIdeal (hKernelIdeal := Cert.KernelIdeal.Gen.facts) :=
  fun m ρ _ => Cert.KernelIdeal.Gen.frame m ρ

/-- The reference's frame: host operations only, and the program declares no counter. -/
theorem frame_reference : Cert.quiescent_ReferenceIdeal (hReferenceIdeal := Cert.ReferenceIdeal.Gen.facts) :=
  fun m ρ _ => (θ_run _ _ _).mono
    (fun r h => ⟨fun c => (h c).2.2, sem_eq_zero_of_no_sems (by decide) r.2⟩)
    (Cert.ReferenceIdeal.Value.run m ρ)

/-- The value claim: from real arguments the kernel's two results are the reference's two results, and neither program
    changes its arguments. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Arrays.gates m c, fun c => Cert.KernelIdeal.Arrays.load m c, Cert.KernelIdeal.Arrays.run m g, ?_⟩
  refine (θ_run _ _ _).mono (fun r h c => ?_) (Cert.ReferenceIdeal.Value.run m' g')
  obtain ⟨h0, h1, h2, h3, h4⟩ := hargs c
  have e0 : StableHlo.launchContents m' c (Proc.devRef .tc Cert.ReferenceIdeal.main_arg0) = Cert.KernelIdeal.Host.argX m c := h0
  have e1 : StableHlo.launchContents m' c (Proc.devRef .tc Cert.ReferenceIdeal.main_arg1) = Cert.KernelIdeal.Host.argW m c := h1
  have e2 : StableHlo.launchContents m' c (Proc.devRef .tc Cert.ReferenceIdeal.main_arg2) = Cert.KernelIdeal.Host.argB m c := h2
  have e3 : StableHlo.launchContents m' c (Proc.devRef .tc Cert.ReferenceIdeal.main_arg3) = Cert.KernelIdeal.Host.argG m c := h3
  have e4 : StableHlo.launchContents m' c (Proc.devRef .tc Cert.ReferenceIdeal.main_arg4) = Cert.KernelIdeal.Host.argC m c := h4
  refine ⟨?_, ?_, (h c).2.2⟩
  · refine (h c).1.trans ((Cert.ReferenceIdeal.Read.val_main_v43_eq (StableHlo.launchContents m' c)).trans ?_)
    rw [e0, e1, e2, e3, e4]
    exact Cert.Agree.gates_eq m c (hpre c)
  · refine (h c).2.1.trans ((Cert.ReferenceIdeal.Read.val_main_v47_eq (StableHlo.launchContents m' c)).trans ?_)
    rw [e0, e1, e2, e3, e4]
    exact Cert.Agree.load_eq m c (hpre c)

/-- Every claim of the certificate. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    trivial, value⟩

end Cert.Proof

end
